-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "qscale" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v21)) (v4 : (c : Dev Cert.KernelIdeal.nD) → Buf (Elt Ideal) ((c.tc : Thread Cert.KernelIdeal.nD Cert.KernelIdeal.τ).loc Cert.KernelIdeal.main_v22)) (v5 : (c : Dev Cert.KernelIdeal.nD) → Buf (Elt Ideal) ((c.tc : Thread Cert.KernelIdeal.nD Cert.KernelIdeal.τ).loc Cert.KernelIdeal.main_v14_2)) (v6 : (c : Dev Cert.KernelIdeal.nD) → Buf (Elt Ideal) ((c.tc : Thread Cert.KernelIdeal.nD Cert.KernelIdeal.τ).loc Cert.KernelIdeal.main_v14_3)) (v7 : (c : Dev Cert.KernelIdeal.nD) → Buf (Elt Ideal) ((c.tc : Thread Cert.KernelIdeal.nD Cert.KernelIdeal.τ).loc Cert.KernelIdeal.main_v14_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_v21) = v3 c
          ∧ r.2.mem ((c.tc : Thread Cert.KernelIdeal.nD Cert.KernelIdeal.τ).loc Cert.KernelIdeal.main_v22) = v4 c
          ∧ r.2.mem ((c.tc : Thread Cert.KernelIdeal.nD Cert.KernelIdeal.τ).loc Cert.KernelIdeal.main_v14_2) = v5 c
          ∧ r.2.mem ((c.tc : Thread Cert.KernelIdeal.nD Cert.KernelIdeal.τ).loc Cert.KernelIdeal.main_v14_3) = v6 c
          ∧ r.2.mem ((c.tc : Thread Cert.KernelIdeal.nD Cert.KernelIdeal.τ).loc Cert.KernelIdeal.main_v14_4) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_v89) = v5 c
          ∧ r.2.mem ((c.tc : Thread Cert.ReferenceIdeal.nD Cert.ReferenceIdeal.τ).loc Cert.ReferenceIdeal.main_v91) = v6 c
          ∧ r.2.mem ((c.tc : Thread Cert.ReferenceIdeal.nD Cert.ReferenceIdeal.τ).loc Cert.ReferenceIdeal.main_v93) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)) (v4 : (c : Dev Cert.Kernel3Ideal.nD) → Buf (Elt Ideal) ((c.tc : Thread Cert.Kernel3Ideal.nD Cert.Kernel3Ideal.τ).loc Cert.Kernel3Ideal.main_v8_4)) (v5 : (c : Dev Cert.Kernel3Ideal.nD) → Buf (Elt Ideal) ((c.tc : Thread Cert.Kernel3Ideal.nD Cert.Kernel3Ideal.τ).loc Cert.Kernel3Ideal.main_v8_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_v8_4) = v4 c
          ∧ r.2.mem ((c.tc : Thread Cert.Kernel3Ideal.nD Cert.Kernel3Ideal.τ).loc Cert.Kernel3Ideal.main_v8_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_v12) = v2 c
          ∧ r.2.mem ((c.tc : Thread Cert.Reference3Ideal.nD Cert.Reference3Ideal.τ).loc Cert.Reference3Ideal.main_v14) = v3 c
          ∧ r.2.mem ((c.tc : Thread Cert.Reference3Ideal.nD Cert.Reference3Ideal.τ).loc Cert.Reference3Ideal.main_v16) = v4 c
          ∧ r.2.mem ((c.tc : Thread Cert.Reference3Ideal.nD Cert.Reference3Ideal.τ).loc Cert.Reference3Ideal.main_v18) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4x4096x4096 : Shape := ⟨3, ![4, 4096, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S1x4096x20496 : Shape := ⟨3, ![1, 4096, 20496]⟩
abbrev S1x2048x4096 : Shape := ⟨3, ![1, 2048, 4096]⟩
abbrev S1x4096x4096 : Shape := ⟨3, ![1, 4096, 4096]⟩
abbrev S16384x4096 : Shape := ⟨2, ![16384, 4096]⟩
abbrev S4096x11008 : Shape := ⟨2, ![4096, 11008]⟩
abbrev S4096 : Shape := ⟨1, ![4096]⟩
abbrev S512x4096 : Shape := ⟨2, ![512, 4096]⟩
abbrev S512 : Shape := ⟨1, ![512]⟩
abbrev S512x1 : Shape := ⟨2, ![512, 1]⟩
abbrev S11008x4096 : Shape := ⟨2, ![11008, 4096]⟩
abbrev S2048x4096 : Shape := ⟨2, ![2048, 4096]⟩
abbrev S4096x4096 : Shape := ⟨2, ![4096, 4096]⟩
abbrev S16384x11008 : Shape := ⟨2, ![16384, 11008]⟩
abbrev S4096x256 : Shape := ⟨2, ![4096, 256]⟩
abbrev S32x4096 : Shape := ⟨2, ![32, 4096]⟩
abbrev S16x4096 : Shape := ⟨2, ![16, 4096]⟩
abbrev S2048x256 : Shape := ⟨2, ![2048, 256]⟩
abbrev S4096x20496 : Shape := ⟨2, ![4096, 20496]⟩
abbrev S20496x4096 : Shape := ⟨2, ![20496, 4096]⟩
abbrev S512x11008 : Shape := ⟨2, ![512, 11008]⟩
abbrev S11008x512 : Shape := ⟨2, ![11008, 512]⟩
abbrev S512x512 : Shape := ⟨2, ![512, 512]⟩
abbrev S16384x6144 : Shape := ⟨2, ![16384, 6144]⟩
abbrev S1024x4096 : Shape := ⟨2, ![1024, 4096]⟩
abbrev S1024x1024 : Shape := ⟨2, ![1024, 1024]⟩
abbrev S16384x8192 : Shape := ⟨2, ![16384, 8192]⟩

abbrev nBuf : Space → Nat
  | .hbm => 39
  | .vmem => 62
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S1x4096x11008, .f32⟩
  | .hbm, ⟨3, _⟩ => ⟨S1x4096x11008, .f32⟩
  | .hbm, ⟨4, _⟩ => ⟨S1x11008x4096, .f32⟩
  | .hbm, ⟨5, _⟩ => ⟨S1x4096, .f32⟩
  | .hbm, ⟨6, _⟩ => ⟨S1x4096, .f32⟩
  | .hbm, ⟨7, _⟩ => ⟨S1x4096x20496, .f32⟩
  | .hbm, ⟨8, _⟩ => ⟨S1x2048x4096, .f32⟩
  | .hbm, ⟨9, _⟩ => ⟨S1x2048x4096, .f32⟩
  | .hbm, ⟨10, _⟩ => ⟨S1x4096x4096, .f32⟩
  | .hbm, ⟨11, _⟩ => ⟨S16384x4096, .f32⟩
  | .hbm, ⟨12, _⟩ => ⟨S4096x11008, .f32⟩
  | .hbm, ⟨13, _⟩ => ⟨S4096x11008, .f32⟩
  | .hbm, ⟨14, _⟩ => ⟨S4096, .f32⟩
  | .hbm, ⟨15, _⟩ => ⟨S1x4096, .f32⟩
  | .hbm, ⟨16, _⟩ => ⟨S4096, .f32⟩
  | .hbm, ⟨17, _⟩ => ⟨S1x4096, .f32⟩
  | .hbm, ⟨18, _⟩ => ⟨S4096, .f32⟩
  | .hbm, ⟨19, _⟩ => ⟨S1x4096, .f32⟩
  | .hbm, ⟨20, _⟩ => ⟨S16384x4096, .bf16⟩
  | .hbm, ⟨21, _⟩ => ⟨S11008x4096, .f32⟩
  | .hbm, ⟨22, _⟩ => ⟨S2048x4096, .f32⟩
  | .hbm, ⟨23, _⟩ => ⟨S2048x4096, .f32⟩
  | .hbm, ⟨24, _⟩ => ⟨S4096x4096, .f32⟩
  | .hbm, ⟨25, _⟩ => ⟨S16384x11008, .bf16⟩
  | .hbm, ⟨26, _⟩ => ⟨S11008x4096, .bf16⟩
  | .hbm, ⟨27, _⟩ => ⟨S2048x4096, .bf16⟩
  | .hbm, ⟨28, _⟩ => ⟨S2048x4096, .bf16⟩
  | .hbm, ⟨29, _⟩ => ⟨S4096x4096, .bf16⟩
  | .hbm, ⟨30, _⟩ => ⟨S4096x20496, .f32⟩
  | .hbm, ⟨31, _⟩ => ⟨S20496x4096, .f32⟩
  | .hbm, ⟨32, _⟩ => ⟨S20496x4096, .bf16⟩
  | .hbm, ⟨33, _⟩ => ⟨S16384x4096, .bf16⟩
  | .hbm, ⟨34, _⟩ => ⟨S16384x4096, .f32⟩
  | .hbm, ⟨35, _⟩ => ⟨S16384x4096, .bf16⟩
  | .hbm, ⟨36, _⟩ => ⟨S16384x6144, .bf16⟩
  | .hbm, ⟨37, _⟩ => ⟨S16384x6144, .bf16⟩
  | .hbm, ⟨38, _⟩ => ⟨S16384x8192, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S2048x4096, .bf16⟩
  | .local _ .vmem, ⟨6, _⟩ => ⟨S4096x256, .f32⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S32x4096, .f32⟩
  | .local _ .vmem, ⟨11, _⟩ => ⟨S32x4096, .f32⟩
  | .local _ .vmem, ⟨12, _⟩ => ⟨S16x4096, .f32⟩
  | .local _ .vmem, ⟨13, _⟩ => ⟨S16x4096, .f32⟩
  | .local _ .vmem, ⟨14, _⟩ => ⟨S16x4096, .f32⟩
  | .local _ .vmem, ⟨15, _⟩ => ⟨S16x4096, .f32⟩
  | .local _ .vmem, ⟨16, _⟩ => ⟨S16x4096, .f32⟩
  | .local _ .vmem, ⟨17, _⟩ => ⟨S16x4096, .f32⟩
  | .local _ .vmem, ⟨18, _⟩ => ⟨S2048x256, .bf16⟩
  | .local _ .vmem, ⟨19, _⟩ => ⟨S2048x256, .bf16⟩
  | .local _ .vmem, ⟨20, _⟩ => ⟨S32x4096, .bf16⟩
  | .local _ .vmem, ⟨21, _⟩ => ⟨S32x4096, .bf16⟩
  | .local _ .vmem, ⟨22, _⟩ => ⟨S16x4096, .bf16⟩
  | .local _ .vmem, ⟨23, _⟩ => ⟨S16x4096, .bf16⟩
  | .local _ .vmem, ⟨24, _⟩ => ⟨S16x4096, .bf16⟩
  | .local _ .vmem, ⟨25, _⟩ => ⟨S16x4096, .bf16⟩
  | .local _ .vmem, ⟨26, _⟩ => ⟨S16x4096, .bf16⟩
  | .local _ .vmem, ⟨27, _⟩ => ⟨S16x4096, .bf16⟩
  | .local _ .vmem, ⟨28, _⟩ => ⟨S512x11008, .bf16⟩
  | .local _ .vmem, ⟨29, _⟩ => ⟨S512x11008, .bf16⟩
  | .local _ .vmem, ⟨30, _⟩ => ⟨S11008x512, .bf16⟩
  | .local _ .vmem, ⟨31, _⟩ => ⟨S11008x512, .bf16⟩
  | .local _ .vmem, ⟨32, _⟩ => ⟨S512x512, .bf16⟩
  | .local _ .vmem, ⟨33, _⟩ => ⟨S512x512, .bf16⟩
  | .local _ .vmem, ⟨34, _⟩ => ⟨S512x4096, .f32⟩
  | .local _ .vmem, ⟨35, _⟩ => ⟨S512x4096, .f32⟩
  | .local _ .vmem, ⟨36, _⟩ => ⟨S512x4096, .bf16⟩
  | .local _ .vmem, ⟨37, _⟩ => ⟨S512x4096, .bf16⟩
  | .local _ .vmem, ⟨38, _⟩ => ⟨S1x4096, .f32⟩
  | .local _ .vmem, ⟨39, _⟩ => ⟨S1x4096, .f32⟩
  | .local _ .vmem, ⟨40, _⟩ => ⟨S512x4096, .f32⟩
  | .local _ .vmem, ⟨41, _⟩ => ⟨S512x4096, .f32⟩
  | .local _ .vmem, ⟨42, _⟩ => ⟨S512x4096, .bf16⟩
  | .local _ .vmem, ⟨43, _⟩ => ⟨S512x4096, .bf16⟩
  | .local _ .vmem, ⟨44, _⟩ => ⟨S1024x4096, .bf16⟩
  | .local _ .vmem, ⟨45, _⟩ => ⟨S1024x4096, .bf16⟩
  | .local _ .vmem, ⟨46, _⟩ => ⟨S1024x4096, .bf16⟩
  | .local _ .vmem, ⟨47, _⟩ => ⟨S1024x4096, .bf16⟩
  | .local _ .vmem, ⟨48, _⟩ => ⟨S1024x1024, .bf16⟩
  | .local _ .vmem, ⟨49, _⟩ => ⟨S1024x1024, .bf16⟩
  | .local _ .vmem, ⟨50, _⟩ => ⟨S1024x4096, .bf16⟩
  | .local _ .vmem, ⟨51, _⟩ => ⟨S1024x4096, .bf16⟩
  | .local _ .vmem, ⟨52, _⟩ => ⟨S1024x4096, .bf16⟩
  | .local _ .vmem, ⟨53, _⟩ => ⟨S1024x4096, .bf16⟩
  | .local _ .vmem, ⟨54, _⟩ => ⟨S1024x1024, .bf16⟩
  | .local _ .vmem, ⟨55, _⟩ => ⟨S1024x1024, .bf16⟩
  | .local _ .vmem, ⟨56, _⟩ => ⟨S1024x4096, .bf16⟩
  | .local _ .vmem, ⟨57, _⟩ => ⟨S1024x4096, .bf16⟩
  | .local _ .vmem, ⟨58, _⟩ => ⟨S1024x4096, .bf16⟩
  | .local _ .vmem, ⟨59, _⟩ => ⟨S1024x4096, .bf16⟩
  | .local _ .vmem, ⟨60, _⟩ => ⟨S1024x1024, .bf16⟩
  | .local _ .vmem, ⟨61, _⟩ => ⟨S1024x1024, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg4_1 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg2_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc1_sem11_0 : DmaSem sig := 26
abbrev cc1_sem11_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem4_1 : DmaSem sig := 41
abbrev cc3_sem5_0 : DmaSem sig := 42
abbrev cc3_sem5_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem2_1 : DmaSem sig := 61

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

def cc1_transform_4 (i : grid1.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc1_transform_5 (i : grid1.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc1_transform_6 (i : grid1.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

def cc1_transform_9 (i : grid1.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc1_transform_10 (i : grid1.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc1_transform_11 (i : grid1.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S32x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S16x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S16x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S16x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S32x4096 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S16x4096 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S16x4096 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S16x4096 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev grid2 : Pipeline.Grid := ⟨2, ![32, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x11008 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S11008x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x4096 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x4096 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x4096 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x4096 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![16, 6], ![false, false]⟩

def k4_mult1 (i : grid4.Coords) : BitVec 32 :=
  let c0_i32 : BitVec 32 := 0#32
  let arg1 : BitVec 32 := BitVec.ofNat 32 (i 1).val
  let c1024_i32 : BitVec 32 := 1024#32
  let v0 : BitVec 32 := Scalar.muli arg1 c1024_i32
  let v1 : BitVec 32 := Scalar.addi c0_i32 v0
  v1
def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![16, 6], ![false, false]⟩

def k5_mult1 (i : grid5.Coords) : BitVec 32 :=
  let c6160_i32 : BitVec 32 := 6160#32
  let arg1 : BitVec 32 := BitVec.ofNat 32 (i 1).val
  let c1024_i32 : BitVec 32 := 1024#32
  let v0 : BitVec 32 := Scalar.muli arg1 c1024_i32
  let v1 : BitVec 32 := Scalar.addi c6160_i32 v0
  v1
def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c6160_i32 : BitVec 32 := 6160#32
  let v1 : BitVec 32 := Scalar.addi c6160_i32 v0
  let v2 : BitVec 32 := v1
  let c0_i32 : BitVec 32 := 0#32
  let c0_i32_0 : BitVec 32 := 0#32
  ![v2.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1024x4096 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![16, 8], ![false, false]⟩

def k6_mult1 (i : grid6.Coords) : BitVec 32 :=
  let c12304_i32 : BitVec 32 := 12304#32
  let arg1 : BitVec 32 := BitVec.ofNat 32 (i 1).val
  let c1024_i32 : BitVec 32 := 1024#32
  let v0 : BitVec 32 := Scalar.muli arg1 c1024_i32
  let v1 : BitVec 32 := Scalar.addi c12304_i32 v0
  v1
def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c12304_i32 : BitVec 32 := 12304#32
  let v1 : BitVec 32 := Scalar.addi c12304_i32 v0
  let v2 : BitVec 32 := v1
  let c0_i32 : BitVec 32 := 0#32
  let c0_i32_0 : BitVec 32 := 0#32
  ![v2.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S1024x4096 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]
-- ==== KernelIdeal.lean ====
variable {F : FTy → Type} [FloatOps F] [Named F]
def κ : String → Option EReal := fun
  | "qscale" => some (((Real.sqrt 128)⁻¹ * (Real.log 2)⁻¹ : ℝ) : EReal)
  | _ => none
-- ==== ReferenceIdeal.lean ====
abbrev S4x4096x4096 : Shape := ⟨3, ![4, 4096, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S1x4096x20496 : Shape := ⟨3, ![1, 4096, 20496]⟩
abbrev S1x2048x4096 : Shape := ⟨3, ![1, 2048, 4096]⟩
abbrev S1x4096x4096 : Shape := ⟨3, ![1, 4096, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S4096x11008 : Shape := ⟨2, ![4096, 11008]⟩
abbrev S11008x4096 : Shape := ⟨2, ![11008, 4096]⟩
abbrev S16384x11008 : Shape := ⟨2, ![16384, 11008]⟩
abbrev S4096x20496 : Shape := ⟨2, ![4096, 20496]⟩
abbrev S16384x20496 : Shape := ⟨2, ![16384, 20496]⟩
abbrev S16384x2048 : Shape := ⟨2, ![16384, 2048]⟩
abbrev S16384x16 : Shape := ⟨2, ![16384, 16]⟩
abbrev S16384x6144 : Shape := ⟨2, ![16384, 6144]⟩
abbrev S16384x8192 : Shape := ⟨2, ![16384, 8192]⟩
abbrev S2048x4096 : Shape := ⟨2, ![2048, 4096]⟩
abbrev S4096x4096 : Shape := ⟨2, ![4096, 4096]⟩

abbrev nBuf : Space → Nat
  | .hbm => 129
  | .vmem => 0
  | .smem => 0
  | _ => 0

abbrev hbmTy0_0 (i : Nat) : BufTy := match i % 128 with
  | 0 => ⟨S4x4096x4096, .f32⟩
  | 1 => ⟨S1x4096, .f32⟩
  | 2 => ⟨S1x4096x11008, .f32⟩
  | 3 => ⟨S1x4096x11008, .f32⟩
  | 4 => ⟨S1x11008x4096, .f32⟩
  | 5 => ⟨S1x4096, .f32⟩
  | 6 => ⟨S1x4096, .f32⟩
  | 7 => ⟨S1x4096x20496, .f32⟩
  | 8 => ⟨S1x2048x4096, .f32⟩
  | 9 => ⟨S1x2048x4096, .f32⟩
  | 10 => ⟨S1x4096x4096, .f32⟩
  | 11 => ⟨S16384x4096, .f32⟩
  | 12 => ⟨S16384x4096, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1, .f32⟩
  | 23 => ⟨S16384x4096, .f32⟩
  | 24 => ⟨S16384x4096, .f32⟩
  | 25 => ⟨S16384x4096, .f32⟩
  | 26 => ⟨S16384x4096, .f32⟩
  | 27 => ⟨S4096x11008, .f32⟩
  | 28 => ⟨S4096x11008, .f32⟩
  | 29 => ⟨S11008x4096, .f32⟩
  | 30 => ⟨S16384x11008, .f32⟩
  | 31 => ⟨S16384x11008, .f32⟩
  | 32 => ⟨S16384x11008, .f32⟩
  | 33 => ⟨S_, .f32⟩
  | 34 => ⟨S16384x11008, .f32⟩
  | 35 => ⟨S16384x11008, .f32⟩
  | 36 => ⟨S_, .f32⟩
  | 37 => ⟨S16384x11008, .f32⟩
  | 38 => ⟨S16384x11008, .f32⟩
  | 39 => ⟨S16384x11008, .f32⟩
  | 40 => ⟨S16384x11008, .f32⟩
  | 41 => ⟨S16384x11008, .f32⟩
  | 42 => ⟨S16384x4096, .f32⟩
  | 43 => ⟨S16384x4096, .f32⟩
  | 44 => ⟨S_, .f32⟩
  | 45 => ⟨S16384, .f32⟩
  | 46 => ⟨S16384x1, .f32⟩
  | 47 => ⟨S_, .f32⟩
  | 48 => ⟨S16384x1, .f32⟩
  | 49 => ⟨S16384x1, .f32⟩
  | 50 => ⟨S_, .f32⟩
  | 51 => ⟨S16384x1, .f32⟩
  | 52 => ⟨S16384x1, .f32⟩
  | 53 => ⟨S16384x1, .f32⟩
  | 54 => ⟨S16384x4096, .f32⟩
  | 55 => ⟨S16384x4096, .f32⟩
  | 56 => ⟨S16384x4096, .f32⟩
  | 57 => ⟨S16384x4096, .f32⟩
  | 58 => ⟨S_, .f32⟩
  | 59 => ⟨S16384x4096, .f32⟩
  | 60 => ⟨S16384x4096, .f32⟩
  | 61 => ⟨S16384x4096, .f32⟩
  | 62 => ⟨S16384x4096, .f32⟩
  | 63 => ⟨S_, .f32⟩
  | 64 => ⟨S16384, .f32⟩
  | 65 => ⟨S16384x1, .f32⟩
  | 66 => ⟨S_, .f32⟩
  | 67 => ⟨S16384x1, .f32⟩
  | 68 => ⟨S16384x1, .f32⟩
  | 69 => ⟨S_, .f32⟩
  | 70 => ⟨S16384x1, .f32⟩
  | 71 => ⟨S16384x1, .f32⟩
  | 72 => ⟨S16384x1, .f32⟩
  | 73 => ⟨S16384x4096, .f32⟩
  | 74 => ⟨S16384x4096, .f32⟩
  | 75 => ⟨S16384x4096, .f32⟩
  | 76 => ⟨S16384x4096, .f32⟩
  | 77 => ⟨S4096x20496, .f32⟩
  | 78 => ⟨S16384x20496, .f32⟩
  | 79 => ⟨S16384x2048, .f32⟩
  | 80 => ⟨S16384x2048, .f32⟩
  | 81 => ⟨S16384x2048, .f32⟩
  | 82 => ⟨S16384x16, .f32⟩
  | 83 => ⟨S16384x2048, .f32⟩
  | 84 => ⟨S16384x2048, .f32⟩
  | 85 => ⟨S16384x2048, .f32⟩
  | 86 => ⟨S16384x4096, .f32⟩
  | 87 => ⟨S16384x4096, .f32⟩
  | 88 => ⟨S_, .f32⟩
  | 89 => ⟨S_, .f32⟩
  | 90 => ⟨S_, .f32⟩
  | 91 => ⟨S_, .f32⟩
  | 92 => ⟨S16384x4096, .bf16⟩
  | 93 => ⟨S16384x2048, .f32⟩
  | 94 => ⟨S16384x2048, .f32⟩
  | 95 => ⟨S16384x2048, .f32⟩
  | 96 => ⟨S16384x2048, .f32⟩
  | 97 => ⟨S16384x6144, .f32⟩
  | 98 => ⟨S16384x6144, .bf16⟩
  | 99 => ⟨S16384x2048, .f32⟩
  | 100 => ⟨S16384x2048, .f32⟩
  | 101 => ⟨S16384x2048, .f32⟩
  | 102 => ⟨S16384x2048, .f32⟩
  | 103 => ⟨S16384x6144, .f32⟩
  | 104 => ⟨S16384x6144, .bf16⟩
  | 105 => ⟨S16384x4096, .f32⟩
  | 106 => ⟨S16384x4096, .f32⟩
  | 107 => ⟨S_, .f32⟩
  | 108 => ⟨S16384x4096, .f32⟩
  | 109 => ⟨S16384x4096, .f32⟩
  | 110 => ⟨S_, .f32⟩
  | 111 => ⟨S16384x4096, .f32⟩
  | 112 => ⟨S16384x4096, .f32⟩
  | 113 => ⟨S16384x4096, .f32⟩
  | 114 => ⟨S16384x4096, .f32⟩
  | 115 => ⟨S_, .f32⟩
  | 116 => ⟨S16384x4096, .f32⟩
  | 117 => ⟨S16384x4096, .f32⟩
  | 118 => ⟨S_, .f32⟩
  | 119 => ⟨S16384x4096, .f32⟩
  | 120 => ⟨S16384x4096, .f32⟩
  | 121 => ⟨S16384x8192, .f32⟩
  | 122 => ⟨S16384x8192, .bf16⟩
  | 123 => ⟨S2048x4096, .f32⟩
  | 124 => ⟨S2048x4096, .bf16⟩
  | 125 => ⟨S2048x4096, .f32⟩
  | 126 => ⟨S2048x4096, .bf16⟩
  | 127 => ⟨S4096x4096, .f32⟩
  | _ => ⟨S4x4096x4096, .f32⟩

abbrev hbmTy0_1 (i : Nat) : BufTy := match i % 128 with
  | 0 => ⟨S4096x4096, .bf16⟩
  | _ => ⟨S4x4096x4096, .f32⟩

abbrev hbmTy (i : Nat) : BufTy := match i / 128 with
  | 0 => hbmTy0_0 i
  | 1 => hbmTy0_1 i
  | _ => ⟨S4x4096x4096, .f32⟩

abbrev bufTy : (tb : Table) → Fin (tcTables nBuf tb) → BufTy
  | .hbm, ⟨i, _⟩ => hbmTy i
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_11 : Ref sig .tc := ⟨.hbm, 107, rfl⟩
abbrev main_v76 : Ref sig .tc := ⟨.hbm, 108, rfl⟩
abbrev main_v77 : Ref sig .tc := ⟨.hbm, 109, rfl⟩
abbrev main_cst_12 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_13 : Ref sig .tc := ⟨.hbm, 115, rfl⟩
abbrev main_v82 : Ref sig .tc := ⟨.hbm, 116, rfl⟩
abbrev main_v83 : Ref sig .tc := ⟨.hbm, 117, rfl⟩
abbrev main_cst_14 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]
-- ==== Kernel2.lean ====
abbrev S16384x2048 : Shape := ⟨2, ![16384, 2048]⟩
abbrev S16384x8192 : Shape := ⟨2, ![16384, 8192]⟩
abbrev S16384x4096 : Shape := ⟨2, ![16384, 4096]⟩
abbrev S2048x4096 : Shape := ⟨2, ![2048, 4096]⟩
abbrev S4096x4096 : Shape := ⟨2, ![4096, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S1024x2048 : Shape := ⟨2, ![1024, 2048]⟩
abbrev S2048x512 : Shape := ⟨2, ![2048, 512]⟩
abbrev S1024x512 : Shape := ⟨2, ![1024, 512]⟩
abbrev S1024x4096 : Shape := ⟨2, ![1024, 4096]⟩
abbrev S4096x1024 : Shape := ⟨2, ![4096, 1024]⟩
abbrev S1024x1024 : Shape := ⟨2, ![1024, 1024]⟩
abbrev S4096 : Shape := ⟨1, ![4096]⟩
abbrev S512x4096 : Shape := ⟨2, ![512, 4096]⟩
abbrev S512 : Shape := ⟨1, ![512]⟩
abbrev S512x1 : Shape := ⟨2, ![512, 1]⟩
abbrev S4096x11008 : Shape := ⟨2, ![4096, 11008]⟩
abbrev S11008x4096 : Shape := ⟨2, ![11008, 4096]⟩
abbrev S16384x11008 : Shape := ⟨2, ![16384, 11008]⟩
abbrev S4096x256 : Shape := ⟨2, ![4096, 256]⟩
abbrev S32x4096 : Shape := ⟨2, ![32, 4096]⟩
abbrev S2048x256 : Shape := ⟨2, ![2048, 256]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 30
  | .vmem => 54
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x8192, .bf16⟩
  | .hbm, ⟨3, _⟩ => ⟨S16384x4096, .f32⟩
  | .hbm, ⟨4, _⟩ => ⟨S2048x4096, .bf16⟩
  | .hbm, ⟨5, _⟩ => ⟨S2048x4096, .bf16⟩
  | .hbm, ⟨6, _⟩ => ⟨S4096x4096, .bf16⟩
  | .hbm, ⟨7, _⟩ => ⟨S1x4096, .f32⟩
  | .hbm, ⟨8, _⟩ => ⟨S1x4096, .f32⟩
  | .hbm, ⟨9, _⟩ => ⟨S1x4096x11008, .f32⟩
  | .hbm, ⟨10, _⟩ => ⟨S1x4096x11008, .f32⟩
  | .hbm, ⟨11, _⟩ => ⟨S1x11008x4096, .f32⟩
  | .hbm, ⟨12, _⟩ => ⟨S1x4096, .f32⟩
  | .hbm, ⟨13, _⟩ => ⟨S16384x4096, .bf16⟩
  | .hbm, ⟨14, _⟩ => ⟨S16384x4096, .bf16⟩
  | .hbm, ⟨15, _⟩ => ⟨S4096, .f32⟩
  | .hbm, ⟨16, _⟩ => ⟨S1x4096, .f32⟩
  | .hbm, ⟨17, _⟩ => ⟨S4096, .f32⟩
  | .hbm, ⟨18, _⟩ => ⟨S1x4096, .f32⟩
  | .hbm, ⟨19, _⟩ => ⟨S4096, .f32⟩
  | .hbm, ⟨20, _⟩ => ⟨S1x4096, .f32⟩
  | .hbm, ⟨21, _⟩ => ⟨S16384x4096, .f32⟩
  | .hbm, ⟨22, _⟩ => ⟨S16384x4096, .bf16⟩
  | .hbm, ⟨23, _⟩ => ⟨S4096x11008, .f32⟩
  | .hbm, ⟨24, _⟩ => ⟨S4096x11008, .f32⟩
  | .hbm, ⟨25, _⟩ => ⟨S11008x4096, .f32⟩
  | .hbm, ⟨26, _⟩ => ⟨S16384x11008, .bf16⟩
  | .hbm, ⟨27, _⟩ => ⟨S11008x4096, .bf16⟩
  | .hbm, ⟨28, _⟩ => ⟨S16384x4096, .bf16⟩
  | .hbm, ⟨29, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x4096, .bf16⟩
  | .local _ .vmem, ⟨15, _⟩ => ⟨S1024x4096, .bf16⟩
  | .local _ .vmem, ⟨16, _⟩ => ⟨S4096x1024, .bf16⟩
  | .local _ .vmem, ⟨17, _⟩ => ⟨S4096x1024, .bf16⟩
  | .local _ .vmem, ⟨18, _⟩ => ⟨S1024x1024, .bf16⟩
  | .local _ .vmem, ⟨19, _⟩ => ⟨S1024x1024, .bf16⟩
  | .local _ .vmem, ⟨20, _⟩ => ⟨S512x4096, .f32⟩
  | .local _ .vmem, ⟨21, _⟩ => ⟨S512x4096, .f32⟩
  | .local _ .vmem, ⟨22, _⟩ => ⟨S512x4096, .bf16⟩
  | .local _ .vmem, ⟨23, _⟩ => ⟨S512x4096, .bf16⟩
  | .local _ .vmem, ⟨24, _⟩ => ⟨S1x4096, .f32⟩
  | .local _ .vmem, ⟨25, _⟩ => ⟨S1x4096, .f32⟩
  | .local _ .vmem, ⟨26, _⟩ => ⟨S512x4096, .f32⟩
  | .local _ .vmem, ⟨27, _⟩ => ⟨S512x4096, .f32⟩
  | .local _ .vmem, ⟨28, _⟩ => ⟨S512x4096, .bf16⟩
  | .local _ .vmem, ⟨29, _⟩ => ⟨S512x4096, .bf16⟩
  | .local _ .vmem, ⟨30, _⟩ => ⟨S2048x4096, .bf16⟩
  | .local _ .vmem, ⟨31, _⟩ => ⟨S4096x256, .f32⟩
  | .local _ .vmem, ⟨32, _⟩ => ⟨S4096x256, .f32⟩
  | .local _ .vmem, ⟨33, _⟩ => ⟨S4096x256, .f32⟩
  | .local _ .vmem, ⟨34, _⟩ => ⟨S4096x256, .f32⟩
  | .local _ .vmem, ⟨35, _⟩ => ⟨S32x4096, .f32⟩
  | .local _ .vmem, ⟨36, _⟩ => ⟨S32x4096, .f32⟩
  | .local _ .vmem, ⟨37, _⟩ => ⟨S2048x256, .bf16⟩
  | .local _ .vmem, ⟨38, _⟩ => ⟨S2048x256, .bf16⟩
  | .local _ .vmem, ⟨39, _⟩ => ⟨S32x4096, .bf16⟩
  | .local _ .vmem, ⟨40, _⟩ => ⟨S32x4096, .bf16⟩
  | .local _ .vmem, ⟨41, _⟩ => ⟨S512x11008, .bf16⟩
  | .local _ .vmem, ⟨42, _⟩ => ⟨S512x11008, .bf16⟩
  | .local _ .vmem, ⟨43, _⟩ => ⟨S11008x512, .bf16⟩
  | .local _ .vmem, ⟨44, _⟩ => ⟨S11008x512, .bf16⟩
  | .local _ .vmem, ⟨45, _⟩ => ⟨S512x512, .bf16⟩
  | .local _ .vmem, ⟨46, _⟩ => ⟨S512x512, .bf16⟩
  | .local _ .vmem, ⟨47, _⟩ => ⟨S512x4096, .f32⟩
  | .local _ .vmem, ⟨48, _⟩ => ⟨S512x4096, .f32⟩
  | .local _ .vmem, ⟨49, _⟩ => ⟨S512x4096, .bf16⟩
  | .local _ .vmem, ⟨50, _⟩ => ⟨S512x4096, .bf16⟩
  | .local _ .vmem, ⟨51, _⟩ => ⟨S1x4096, .f32⟩
  | .local _ .vmem, ⟨52, _⟩ => ⟨S512x4096, .f32⟩
  | .local _ .vmem, ⟨53, _⟩ => ⟨S512x4096, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc3_stg5_0 : Ref sig .tc := ⟨.vmem, 39, rfl⟩
abbrev cc3_stg5_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg2_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg3_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38
abbrev cc3_sem5_0 : DmaSem sig := 39
abbrev cc3_sem5_1 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem2_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem3_0 : DmaSem sig := 52
abbrev cc5_sem3_1 : DmaSem sig := 53

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x4096 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![8, 43], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

abbrev stage3_0 : Fin 1 → Memref sig .tc .vmem S2048x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4096x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4096x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S32x4096 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S2048x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S32x4096 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![32, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x11008 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S11008x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x4096 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x4096 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x4096 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x4096 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]
-- ==== Reference2Ideal.lean ====
abbrev S16384x2048 : Shape := ⟨2, ![16384, 2048]⟩
abbrev S16384x8192 : Shape := ⟨2, ![16384, 8192]⟩
abbrev S16384x4096 : Shape := ⟨2, ![16384, 4096]⟩
abbrev S2048x4096 : Shape := ⟨2, ![2048, 4096]⟩
abbrev S4096x4096 : Shape := ⟨2, ![4096, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S_ : Shape := ⟨0, ![]⟩
abbrev S16384 : Shape := ⟨1, ![16384]⟩
abbrev S16384x1 : Shape := ⟨2, ![16384, 1]⟩
abbrev S4096x11008 : Shape := ⟨2, ![4096, 11008]⟩
abbrev S11008x4096 : Shape := ⟨2, ![11008, 4096]⟩
abbrev S16384x11008 : Shape := ⟨2, ![16384, 11008]⟩

abbrev nBuf : Space → Nat
  | .hbm => 93
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x8192, .bf16⟩
  | .hbm, ⟨3, _⟩ => ⟨S16384x4096, .f32⟩
  | .hbm, ⟨4, _⟩ => ⟨S2048x4096, .bf16⟩
  | .hbm, ⟨5, _⟩ => ⟨S2048x4096, .bf16⟩
  | .hbm, ⟨6, _⟩ => ⟨S4096x4096, .bf16⟩
  | .hbm, ⟨7, _⟩ => ⟨S1x4096, .f32⟩
  | .hbm, ⟨8, _⟩ => ⟨S1x4096, .f32⟩
  | .hbm, ⟨9, _⟩ => ⟨S1x4096x11008, .f32⟩
  | .hbm, ⟨10, _⟩ => ⟨S1x4096x11008, .f32⟩
  | .hbm, ⟨11, _⟩ => ⟨S1x11008x4096, .f32⟩
  | .hbm, ⟨12, _⟩ => ⟨S1x4096, .f32⟩
  | .hbm, ⟨13, _⟩ => ⟨S16384x8192, .f32⟩
  | .hbm, ⟨14, _⟩ => ⟨S16384x4096, .f32⟩
  | .hbm, ⟨15, _⟩ => ⟨S16384x4096, .f32⟩
  | .hbm, ⟨16, _⟩ => ⟨S16384x2048, .f32⟩
  | .hbm, ⟨17, _⟩ => ⟨S2048x4096, .f32⟩
  | .hbm, ⟨18, _⟩ => ⟨S16384x4096, .f32⟩
  | .hbm, ⟨19, _⟩ => ⟨S16384x2048, .f32⟩
  | .hbm, ⟨20, _⟩ => ⟨S2048x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S4096x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x4096, .f32⟩
  | .hbm, ⟨55, _⟩ => ⟨S16384x4096, .f32⟩
  | .hbm, ⟨56, _⟩ => ⟨S16384x4096, .f32⟩
  | .hbm, ⟨57, _⟩ => ⟨S16384x4096, .f32⟩
  | .hbm, ⟨58, _⟩ => ⟨S4096x11008, .f32⟩
  | .hbm, ⟨59, _⟩ => ⟨S4096x11008, .f32⟩
  | .hbm, ⟨60, _⟩ => ⟨S11008x4096, .f32⟩
  | .hbm, ⟨61, _⟩ => ⟨S16384x11008, .f32⟩
  | .hbm, ⟨62, _⟩ => ⟨S16384x11008, .f32⟩
  | .hbm, ⟨63, _⟩ => ⟨S16384x11008, .f32⟩
  | .hbm, ⟨64, _⟩ => ⟨S_, .f32⟩
  | .hbm, ⟨65, _⟩ => ⟨S16384x11008, .f32⟩
  | .hbm, ⟨66, _⟩ => ⟨S16384x11008, .f32⟩
  | .hbm, ⟨67, _⟩ => ⟨S_, .f32⟩
  | .hbm, ⟨68, _⟩ => ⟨S16384x11008, .f32⟩
  | .hbm, ⟨69, _⟩ => ⟨S16384x11008, .f32⟩
  | .hbm, ⟨70, _⟩ => ⟨S16384x11008, .f32⟩
  | .hbm, ⟨71, _⟩ => ⟨S16384x11008, .f32⟩
  | .hbm, ⟨72, _⟩ => ⟨S16384x11008, .f32⟩
  | .hbm, ⟨73, _⟩ => ⟨S16384x4096, .f32⟩
  | .hbm, ⟨74, _⟩ => ⟨S16384x4096, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S16384x1, .f32⟩
  | .hbm, ⟨85, _⟩ => ⟨S16384x4096, .f32⟩
  | .hbm, ⟨86, _⟩ => ⟨S16384x4096, .f32⟩
  | .hbm, ⟨87, _⟩ => ⟨S16384x4096, .f32⟩
  | .hbm, ⟨88, _⟩ => ⟨S16384x4096, .f32⟩
  | .hbm, ⟨89, _⟩ => ⟨S_, .f32⟩
  | .hbm, ⟨90, _⟩ => ⟨S16384x4096, .f32⟩
  | .hbm, ⟨91, _⟩ => ⟨S16384x4096, .f32⟩
  | .hbm, ⟨92, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_5 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== Kernel3.lean ====
abbrev S16384x4096 : Shape := ⟨2, ![16384, 4096]⟩
abbrev S1x4096x11008 : Shape := ⟨3, ![1, 4096, 11008]⟩
abbrev S1x11008x4096 : Shape := ⟨3, ![1, 11008, 4096]⟩
abbrev S1x4096x20496 : Shape := ⟨3, ![1, 4096, 20496]⟩
abbrev S1x2048x4096 : Shape := ⟨3, ![1, 2048, 4096]⟩
abbrev S1x4096x4096 : Shape := ⟨3, ![1, 4096, 4096]⟩
abbrev S4096x11008 : Shape := ⟨2, ![4096, 11008]⟩
abbrev S11008x4096 : Shape := ⟨2, ![11008, 4096]⟩
abbrev S4096x20496 : Shape := ⟨2, ![4096, 20496]⟩
abbrev S20496x4096 : Shape := ⟨2, ![20496, 4096]⟩
abbrev S2048x4096 : Shape := ⟨2, ![2048, 4096]⟩
abbrev S4096x4096 : Shape := ⟨2, ![4096, 4096]⟩
abbrev S16384x11008 : Shape := ⟨2, ![16384, 11008]⟩
abbrev S4096x256 : Shape := ⟨2, ![4096, 256]⟩
abbrev S32x4096 : Shape := ⟨2, ![32, 4096]⟩
abbrev S64x4096 : Shape := ⟨2, ![64, 4096]⟩
abbrev S16x4096 : Shape := ⟨2, ![16, 4096]⟩
abbrev S2048x256 : Shape := ⟨2, ![2048, 256]⟩

abbrev nBuf : Space → Nat
  | .hbm => 22
  | .vmem => 27
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S1x4096x11008, .f32⟩
  | .hbm, ⟨3, _⟩ => ⟨S1x11008x4096, .f32⟩
  | .hbm, ⟨4, _⟩ => ⟨S1x4096x20496, .f32⟩
  | .hbm, ⟨5, _⟩ => ⟨S1x2048x4096, .f32⟩
  | .hbm, ⟨6, _⟩ => ⟨S1x2048x4096, .f32⟩
  | .hbm, ⟨7, _⟩ => ⟨S1x4096x4096, .f32⟩
  | .hbm, ⟨8, _⟩ => ⟨S4096x11008, .f32⟩
  | .hbm, ⟨9, _⟩ => ⟨S4096x11008, .f32⟩
  | .hbm, ⟨10, _⟩ => ⟨S11008x4096, .f32⟩
  | .hbm, ⟨11, _⟩ => ⟨S4096x20496, .f32⟩
  | .hbm, ⟨12, _⟩ => ⟨S20496x4096, .f32⟩
  | .hbm, ⟨13, _⟩ => ⟨S2048x4096, .f32⟩
  | .hbm, ⟨14, _⟩ => ⟨S2048x4096, .f32⟩
  | .hbm, ⟨15, _⟩ => ⟨S4096x4096, .f32⟩
  | .hbm, ⟨16, _⟩ => ⟨S16384x11008, .bf16⟩
  | .hbm, ⟨17, _⟩ => ⟨S11008x4096, .bf16⟩
  | .hbm, ⟨18, _⟩ => ⟨S20496x4096, .bf16⟩
  | .hbm, ⟨19, _⟩ => ⟨S2048x4096, .bf16⟩
  | .hbm, ⟨20, _⟩ => ⟨S2048x4096, .bf16⟩
  | .hbm, ⟨21, _⟩ => ⟨S4096x4096, .bf16⟩
  | .local _ .vmem, ⟨0, _⟩ => ⟨S2048x4096, .bf16⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S32x4096, .f32⟩
  | .local _ .vmem, ⟨6, _⟩ => ⟨S32x4096, .f32⟩
  | .local _ .vmem, ⟨7, _⟩ => ⟨S64x4096, .f32⟩
  | .local _ .vmem, ⟨8, _⟩ => ⟨S64x4096, .f32⟩
  | .local _ .vmem, ⟨9, _⟩ => ⟨S16x4096, .f32⟩
  | .local _ .vmem, ⟨10, _⟩ => ⟨S16x4096, .f32⟩
  | .local _ .vmem, ⟨11, _⟩ => ⟨S16x4096, .f32⟩
  | .local _ .vmem, ⟨12, _⟩ => ⟨S16x4096, .f32⟩
  | .local _ .vmem, ⟨13, _⟩ => ⟨S16x4096, .f32⟩
  | .local _ .vmem, ⟨14, _⟩ => ⟨S16x4096, .f32⟩
  | .local _ .vmem, ⟨15, _⟩ => ⟨S2048x256, .bf16⟩
  | .local _ .vmem, ⟨16, _⟩ => ⟨S2048x256, .bf16⟩
  | .local _ .vmem, ⟨17, _⟩ => ⟨S32x4096, .bf16⟩
  | .local _ .vmem, ⟨18, _⟩ => ⟨S32x4096, .bf16⟩
  | .local _ .vmem, ⟨19, _⟩ => ⟨S64x4096, .bf16⟩
  | .local _ .vmem, ⟨20, _⟩ => ⟨S64x4096, .bf16⟩
  | .local _ .vmem, ⟨21, _⟩ => ⟨S16x4096, .bf16⟩
  | .local _ .vmem, ⟨22, _⟩ => ⟨S16x4096, .bf16⟩
  | .local _ .vmem, ⟨23, _⟩ => ⟨S16x4096, .bf16⟩
  | .local _ .vmem, ⟨24, _⟩ => ⟨S16x4096, .bf16⟩
  | .local _ .vmem, ⟨25, _⟩ => ⟨S16x4096, .bf16⟩
  | .local _ .vmem, ⟨26, _⟩ => ⟨S16x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c320_i32 : BitVec 32 := 320#32
  let v2 : BitVec 32 := Scalar.minsi v1 c320_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c320_i32 : BitVec 32 := 320#32
  let v2 : BitVec 32 := Scalar.minsi v1 c320_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S16384x4096 : Shape := ⟨2, ![16384, 4096]⟩
abbrev S1x4096x11008 : Shape := ⟨3, ![1, 4096, 11008]⟩
abbrev S1x11008x4096 : Shape := ⟨3, ![1, 11008, 4096]⟩
abbrev S1x4096x20496 : Shape := ⟨3, ![1, 4096, 20496]⟩
abbrev S1x2048x4096 : Shape := ⟨3, ![1, 2048, 4096]⟩
abbrev S1x4096x4096 : Shape := ⟨3, ![1, 4096, 4096]⟩
abbrev S4096x11008 : Shape := ⟨2, ![4096, 11008]⟩
abbrev S16384x11008 : Shape := ⟨2, ![16384, 11008]⟩
abbrev S_ : Shape := ⟨0, ![]⟩
abbrev S11008x4096 : Shape := ⟨2, ![11008, 4096]⟩
abbrev S4096x20496 : Shape := ⟨2, ![4096, 20496]⟩
abbrev S20496x4096 : Shape := ⟨2, ![20496, 4096]⟩
abbrev S2048x4096 : Shape := ⟨2, ![2048, 4096]⟩
abbrev S4096x4096 : Shape := ⟨2, ![4096, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S1x4096x11008, .f32⟩
  | .hbm, ⟨3, _⟩ => ⟨S1x11008x4096, .f32⟩
  | .hbm, ⟨4, _⟩ => ⟨S1x4096x20496, .f32⟩
  | .hbm, ⟨5, _⟩ => ⟨S1x2048x4096, .f32⟩
  | .hbm, ⟨6, _⟩ => ⟨S1x2048x4096, .f32⟩
  | .hbm, ⟨7, _⟩ => ⟨S1x4096x4096, .f32⟩
  | .hbm, ⟨8, _⟩ => ⟨S16384x4096, .f32⟩
  | .hbm, ⟨9, _⟩ => ⟨S4096x11008, .f32⟩
  | .hbm, ⟨10, _⟩ => ⟨S16384x11008, .f32⟩
  | .hbm, ⟨11, _⟩ => ⟨S16384x11008, .f32⟩
  | .hbm, ⟨12, _⟩ => ⟨S16384x11008, .f32⟩
  | .hbm, ⟨13, _⟩ => ⟨S_, .f32⟩
  | .hbm, ⟨14, _⟩ => ⟨S16384x11008, .f32⟩
  | .hbm, ⟨15, _⟩ => ⟨S16384x11008, .f32⟩
  | .hbm, ⟨16, _⟩ => ⟨S_, .f32⟩
  | .hbm, ⟨17, _⟩ => ⟨S16384x11008, .f32⟩
  | .hbm, ⟨18, _⟩ => ⟨S16384x11008, .f32⟩
  | .hbm, ⟨19, _⟩ => ⟨S16384x11008, .f32⟩
  | .hbm, ⟨20, _⟩ => ⟨S4096x11008, .f32⟩
  | .hbm, ⟨21, _⟩ => ⟨S16384x11008, .f32⟩
  | .hbm, ⟨22, _⟩ => ⟨S16384x11008, .f32⟩
  | .hbm, ⟨23, _⟩ => ⟨S16384x11008, .bf16⟩
  | .hbm, ⟨24, _⟩ => ⟨S11008x4096, .f32⟩
  | .hbm, ⟨25, _⟩ => ⟨S11008x4096, .bf16⟩
  | .hbm, ⟨26, _⟩ => ⟨S4096x20496, .f32⟩
  | .hbm, ⟨27, _⟩ => ⟨S20496x4096, .f32⟩
  | .hbm, ⟨28, _⟩ => ⟨S20496x4096, .bf16⟩
  | .hbm, ⟨29, _⟩ => ⟨S2048x4096, .f32⟩
  | .hbm, ⟨30, _⟩ => ⟨S2048x4096, .bf16⟩
  | .hbm, ⟨31, _⟩ => ⟨S2048x4096, .f32⟩
  | .hbm, ⟨32, _⟩ => ⟨S2048x4096, .bf16⟩
  | .hbm, ⟨33, _⟩ => ⟨S4096x4096, .f32⟩
  | .hbm, ⟨34, _⟩ => ⟨S4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Proof.Spec.lean ====
/- The arithmetic of the layer as functions of whole arrays of extended reals. Each pallas_call's output array and
   each part of the reference are shown equal to one of these. -/
module

public import Idealize.ShloMosaic.Lib.Pipeline.ValueKit
public import Idealize.ShloMosaic.Lib.IdealHost

@[expose] public section

noncomputable section

namespace Cert.Spec
open Idealize.ShloMosaic

/-- An `m` by `n` array of extended reals. -/
abbrev Mat (m n : ℕ) := (⟨2, ![m, n]⟩ : Shape).Idx → EReal

/-- The float constants 1/2, 4096 and the epsilon of the norms. -/
abbrev half : EReal := Ideal.ofBits .f32 0x3F000000#32
abbrev width : EReal := Ideal.ofBits .f32 0x45800000#32
abbrev eps : EReal := Ideal.ofBits .f32 0x358637BD#32

/-- The product of two matrices. -/
def mm {m k n : ℕ} (a : Mat m k) (b : Mat k n) : Mat m n :=
  fun j => ∑ x : Fin k, a (ix2 (j 0) x) * b (ix2 x (j 1))

/-- The product with a band of rows of a transposed weight: rows of `a` against rows of `b` from `r` on. -/
def mmT {m k n N : ℕ} (r : ℕ) (h : r + n ≤ N) (a : Mat m k) (b : Mat N k) : Mat m n :=
  fun j => ∑ x : Fin k, a (ix2 (j 0) x) * b (ix2 (⟨r + (j 1).val, by have := (j 1).isLt; simp at this; omega⟩ : Fin N) x)

/-- A root-mean-square norm over rows of length 4096, with its gain. -/
def rms {m : ℕ} (a : Mat m 4096) (g : Mat 1 4096) : Mat m 4096 :=
  fun j => a (ix2 (j 0) (j 1)) * Ideal.rsqrt (Ideal.div (∑ x : Fin 4096, a (ix2 (j 0) x) * a (ix2 (j 0) x)) width + eps) * g (ix2 0 (j 1))

/-- A residual connection around a normed branch. -/
def res {m : ℕ} (h y : Mat m 4096) (g : Mat 1 4096) : Mat m 4096 :=
  fun j => h (ix2 (j 0) (j 1)) + rms y g (ix2 (j 0) (j 1))

/-- A residual connection around half a normed branch. -/
def resHalf {m : ℕ} (h y : Mat m 4096) (g : Mat 1 4096) : Mat m 4096 :=
  fun j => h (ix2 (j 0) (j 1)) + half * rms y g (ix2 (j 0) (j 1))

/-- The sigmoid, as the kernels compute it. -/
def sg (x : EReal) : EReal := half * Ideal.tanh (half * x) + half

/-- The gated hidden layer of a feed-forward block. -/
def hid {m k n : ℕ} (a : Mat m k) (wg wu : Mat k n) : Mat m n :=
  fun j => mm a wg (ix2 (j 0) (j 1)) * sg (mm a wg (ix2 (j 0) (j 1))) * mm a wu (ix2 (j 0) (j 1))

/-- A band of the transposed input weight as a projection, its first 2048 columns scaled. -/
def proj {m k n N : ℕ} (r : ℕ) (h : r + n ≤ N) (q : EReal) (a : Mat m k) (b : Mat N k) : Mat m n :=
  fun j => mmT r h a b (ix2 (j 0) (j 1)) * (if (j 1).val < 2048 then q else 1)

/-- A band of the transposed input weight as a projection, under the sigmoid. -/
def gate {m k n N : ℕ} (r : ℕ) (h : r + n ≤ N) (a : Mat m k) (b : Mat N k) : Mat m n :=
  fun j => sg (mmT r h a b (ix2 (j 0) (j 1)))

/-- Two projections, each under its half of the gates, added. -/
def merge {m k : ℕ} (af ad : Mat m k) (g : Mat m 8192) (wf wd : Mat k 4096) : Mat m 4096 :=
  fun j => g (ix2 (j 0) (⟨(j 1).val, by have := (j 1).isLt; simp at this; omega⟩ : Fin 8192)) * mm af wf (ix2 (j 0) (j 1))
    + g (ix2 (j 0) (⟨4096 + (j 1).val, by have := (j 1).isLt; simp at this; omega⟩ : Fin 8192)) * mm ad wd (ix2 (j 0) (j 1))

theorem half_eq : half = ((1 / 2 : ℝ) : EReal) := by
  simp [Ideal.ofBits, Ideal.ieee, -EReal.coe_mul]
  norm_num

theorem sg_real (r : ℝ) : 1 / 2 * Real.tanh (1 / 2 * r) + 1 / 2 = 1 / (1 + Real.exp (-r)) := by
  rw [Real.tanh_eq_sinh_div_cosh, Real.sinh_eq, Real.cosh_eq]
  have h : Real.exp (-r) = Real.exp (-(1 / 2 * r)) * Real.exp (-(1 / 2 * r)) := by rw [← Real.exp_add]; congr 1; ring
  have h1 : Real.exp (1 / 2 * r) * Real.exp (-(1 / 2 * r)) = 1 := by rw [← Real.exp_add]; simp
  have p := Real.exp_pos (1 / 2 * r)
  have q := Real.exp_pos (-(1 / 2 * r))
  rw [h]
  generalize Real.exp (1 / 2 * r) = x at *
  generalize Real.exp (-(1 / 2 * r)) = y at *
  have hx : x = 1 / y := by field_simp; linarith
  subst hx
  field_simp
  ring

/-- The kernels' sigmoid is the textbook one, at every extended real. -/
theorem sg_eq (x : EReal) : sg x = Ideal.div 1 (1 + Ideal.exp (-x)) := by
  unfold sg
  rw [half_eq]
  have hh : ((1 / 2 : ℝ) : EReal) * 1 + ((1 / 2 : ℝ) : EReal) = 1 := by
    rw [mul_one, ← EReal.coe_add]; norm_num
  induction x with
  | bot =>
    rw [EReal.coe_mul_bot_of_pos (by norm_num), Ideal.tanh_bot, EReal.neg_bot, Ideal.exp_top]
    have : (1 : EReal) + ⊤ = ⊤ := by exact EReal.coe_add_top 1
    rw [this, Ideal.div, if_neg (by simp), EReal.inv_top, mul_zero, mul_neg, mul_one, ← EReal.coe_neg, ← EReal.coe_add]
    norm_num
  | top =>
    rw [EReal.coe_mul_top_of_pos (by norm_num), Ideal.tanh_top, EReal.neg_top, Ideal.exp_bot, hh]
    simp [Ideal.div]
  | coe r =>
    have hp : (1 + Real.exp (-r)) ≠ 0 := by have := Real.exp_pos (-r); positivity
    rw [← EReal.coe_mul, Ideal.tanh_coe, ← EReal.coe_neg, Ideal.exp_coe, ← EReal.coe_mul, ← EReal.coe_add, sg_real,
      show (1 : EReal) + (Real.exp (-r) : EReal) = ((1 + Real.exp (-r) : ℝ) : EReal) by rw [EReal.coe_add]; rfl,
      Ideal.div_coe hp, one_mul]

/-- A matrix with its axes exchanged. -/
def tr {m n : ℕ} (w : Mat m n) : Mat n m := fun j => w (ix2 (j 1) (j 0))

/-- A band of the columns of a product, its first 2048 columns scaled. -/
def part {m n N : ℕ} (r : ℕ) (h : r + n ≤ N) (q : EReal) (p : Mat m N) : Mat m n :=
  fun j => p (ix2 (j 0) (⟨r + (j 1).val, by have := (j 1).isLt; simp at this; omega⟩ : Fin N)) * (if (j 1).val < 2048 then q else 1)

/-- A band of the columns of a product under the sigmoid. -/
def gated {m n N : ℕ} (r : ℕ) (h : r + n ≤ N) (p : Mat m N) : Mat m n :=
  fun j => sg (p (ix2 (j 0) (⟨r + (j 1).val, by have := (j 1).isLt; simp at this; omega⟩ : Fin N)))

/-- A projection against rows of the transposed weight is a band of the columns of the product. -/
theorem proj_tr {m k n N : ℕ} (r : ℕ) (h : r + n ≤ N) (q : EReal) (a : Mat m k) (w : Mat k N) : (proj r h q a (tr w) : Mat m n) = part r h q (mm a w) := rfl

theorem gate_tr {m k n N : ℕ} (r : ℕ) (h : r + n ≤ N) (a : Mat m k) (w : Mat k N) : (gate r h a (tr w) : Mat m n) = gated r h (mm a w) := rfl

/-- The scale of the queries, (√128)⁻¹ (ln 2)⁻¹. -/
def scale : EReal := (((Real.sqrt 128)⁻¹ * (Real.log 2)⁻¹ : ℝ) : EReal)

theorem root_eq : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, -EReal.coe_mul]
    norm_num
  rw [h, Ideal.sqrt_coe, if_neg (by norm_num)]

theorem ln2_eq : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]
    norm_num
  rw [h, Ideal.log_coe, if_neg (by norm_num)]

/-- Dividing by √128 and by ln 2 is multiplying by the scale. -/
theorem div_div_eq (x : EReal) :
    Ideal.div (Ideal.div x (Ideal.sqrt (Ideal.ofBits .f32 0x43000000#32))) (Ideal.log (Ideal.ofBits .f32 0x40000000#32)) = x * scale := by
  have h : Real.sqrt 128 ≠ 0 := by positivity
  have h' : Real.log 2 ≠ 0 := (Real.log_pos (by norm_num)).ne'
  rw [root_eq, ln2_eq, Ideal.div_coe h, Ideal.div_coe h', mul_assoc, ← EReal.coe_mul, scale, one_div, one_div]

end Cert.Spec

end
-- ==== Proof.Val1.lean ====
module

public import proofs.«01_k».proof.Proof.Gen.KernelIdeal.Frame
public import proofs.«01_k».proof.Proof.Spec
public import Idealize.ShloMosaic.Lib.Claim

@[expose] public section

set_option maxRecDepth 16384

noncomputable section

namespace Cert.KernelIdeal.Val
open Idealize.ShloMosaic Idealize.ShloMosaic.TcCoe Idealize.ShloMosaic.Tactic Cert.KernelIdeal Cert.KernelIdeal.Gen Cert.Spec
open Idealize.ShloMosaic.Pipeline (Dat Cfg Window)

variable (V : (c : Dev nD) → (b : Ref sig .tc) → Buf (Elt Ideal) ((c : Thread nD τ).loc b))

/-! ## The first norm -/

theorem idx0 : ∀ t : Fin cfg0.N, win0_0.index t = ![t.val, 0] ∧ win0_1.index t = ![0, 0] ∧ win0_2.index t = ![t.val, 0] :=
  (by decide +kernel : ∀ t : Fin grid0.N, _)

theorem final0 (c : Dev nD) : (dat0 V c).arrAt 2 cfg0.N = (rms (V c main_v0) (V c main_v4) : Mat 16384 4096) := by
  refine (dat0 V c).arrAt_eq_of_covers 2 _ (by decide +kernel) fun t _ y => ?_
  blk_simp
  rw [after0_2]
  frame_out
  pointwise [k0_pay1, rms]
  blk_point [iblk0, idx0 t]

/-! ## The gated hidden layer, and the four casts that ride in it -/

theorem idx1 : ∀ t : Fin cfg1.N,
    win1_0.index t = ![t.val / 43, 0] ∧ win1_1.index t = ![0, t.val % 43] ∧ win1_2.index t = ![0, t.val % 43]
      ∧ win1_3.index t = ![t.val, 0] ∧ win1_4.index t = ![min t.val 127, 0] ∧ win1_5.index t = ![min t.val 127, 0]
      ∧ win1_6.index t = ![min t.val 255, 0] ∧ win1_7.index t = ![t.val / 43, t.val % 43] ∧ win1_8.index t = ![t.val, 0]
      ∧ win1_9.index t = ![min t.val 127, 0] ∧ win1_10.index t = ![min t.val 127, 0] ∧ win1_11.index t = ![min t.val 255, 0] :=
  (by decide +kernel : ∀ t : Fin grid1.N, _)

theorem final1_7 (c : Dev nD) : (dat1 V c).arrAt 7 cfg1.N = (hid (V c main_v9) (V c main_v1) (V c main_v2) : Mat 16384 11008) := by
  refine (dat1 V c).arrAt_eq_of_covers 7 _ (by decide +kernel) fun t _ y => ?_
  blk_simp
  rw [after1_7]
  frame_out
  pointwise [k1_pay1, k1_pay6, k1_pay7, k1_pay8, k1_pay9, hid, mm, sg]
  blk_point [iblk1, idx1 t]

theorem final1_8 (c : Dev nD) : (dat1 V c).arrAt 8 cfg1.N = (V c main_v10 : Mat 11008 4096) := by
  refine (dat1 V c).arrAt_eq_of_covers 8 _ (by decide +kernel) fun t _ y => ?_
  blk_simp
  rw [after1_8]
  frame_out
  pointwise [k1_pay2]
  blk_point [iblk1, idx1 t]

theorem final1_9 (c : Dev nD) : (dat1 V c).arrAt 9 cfg1.N = (V c main_v11 : Mat 2048 4096) := by
  refine (dat1 V c).arrAt_eq_of_covers 9 _ (by decide +kernel) fun t _ y => ?_
  blk_simp
  rw [after1_9]
  frame_out
  pointwise [k1_pay3]
  blk_point [iblk1, idx1 t]

theorem final1_10 (c : Dev nD) : (dat1 V c).arrAt 10 cfg1.N = (V c main_v12 : Mat 2048 4096) := by
  refine (dat1 V c).arrAt_eq_of_covers 10 _ (by decide +kernel) fun t _ y => ?_
  blk_simp
  rw [after1_10]
  frame_out
  pointwise [k1_pay4]
  blk_point [iblk1, idx1 t]

theorem final1_11 (c : Dev nD) : (dat1 V c).arrAt 11 cfg1.N = (V c main_v13 : Mat 4096 4096) := by
  refine (dat1 V c).arrAt_eq_of_covers 11 _ (by decide +kernel) fun t _ y => ?_
  blk_simp
  rw [after1_11]
  frame_out
  pointwise [k1_pay5]
  blk_point [iblk1, idx1 t]

/-! ## The down projection -/

theorem idx2 : ∀ t : Fin cfg2.N,
    win2_0.index t = ![t.val / 8, 0] ∧ win2_1.index t = ![0, t.val % 8] ∧ win2_2.index t = ![t.val / 8, t.val % 8] :=
  (by decide +kernel : ∀ t : Fin grid2.N, _)

theorem final2 (c : Dev nD) : (dat2 V c).arrAt 2 cfg2.N = (mm (V c main_v14_0) (V c main_v14_1) : Mat 16384 4096) := by
  refine (dat2 V c).arrAt_eq_of_covers 2 _ (by decide +kernel) fun t _ y => ?_
  blk_simp
  rw [after2_2]
  frame_out
  pointwise [k2_pay1, mm]
  blk_point [iblk2, idx2 t]

/-! ## The residual connection and the norm of the mixer's input -/

theorem idx3 : ∀ t : Fin cfg3.N,
    win3_0.index t = ![t.val, 0] ∧ win3_1.index t = ![t.val, 0] ∧ win3_2.index t = ![0, 0] ∧ win3_3.index t = ![0, 0]
      ∧ win3_4.index t = ![t.val, 0] ∧ win3_5.index t = ![t.val, 0] :=
  (by decide +kernel : ∀ t : Fin grid3.N, _)

theorem final3_4 (c : Dev nD) : (dat3 V c).arrAt 4 cfg3.N = (resHalf (V c main_v0) (V c main_v18) (V c main_v6) : Mat 16384 4096) := by
  refine (dat3 V c).arrAt_eq_of_covers 4 _ (by decide +kernel) fun t _ y => ?_
  blk_simp
  rw [after3_4]
  frame_out
  pointwise [k3_pay1, resHalf, rms]
  blk_point [iblk3, idx3 t]

theorem final3_5 (c : Dev nD) : (dat3 V c).arrAt 5 cfg3.N
    = (rms (resHalf (V c main_v0) (V c main_v18) (V c main_v6)) (V c main_v8) : Mat 16384 4096) := by
  refine (dat3 V c).arrAt_eq_of_covers 5 _ (by decide +kernel) fun t _ y => ?_
  blk_simp
  rw [after3_5]
  frame_out
  pointwise [k3_pay1, k3_pay2, resHalf, rms]
  blk_point [iblk3, idx3 t]

end Cert.KernelIdeal.Val

end
-- ==== Proof.Val1p.lean ====
module

public import proofs.«01_k».proof.Proof.Gen.KernelIdeal.Frame
public import proofs.«01_k».proof.Proof.Spec
public import Idealize.ShloMosaic.Lib.Claim

@[expose] public section

set_option maxRecDepth 16384

noncomputable section

namespace Cert.KernelIdeal.Val
open Idealize.ShloMosaic Idealize.ShloMosaic.TcCoe Idealize.ShloMosaic.Tactic Cert.KernelIdeal Cert.KernelIdeal.Gen Cert.Spec
open Idealize.ShloMosaic.Pipeline (Dat Cfg Window)

variable (V : (c : Dev nD) → (b : Ref sig .tc) → Buf (Elt Ideal) ((c : Thread nD τ).loc b))

/-! ## The projections: windows at element offsets into the transposed input weight -/

/-- The scale of the queries, as the idealized kernel names it. -/
abbrev qs : EReal := Named.named (F := Ideal) (φ := .f32) κ "qscale" 0x3E0293EE#32

theorem select_ite (p : Prop) [Decidable p] (a b : EReal) : Scalar.select (if p then 1#1 else 0#1) a b = if p then a else b := by
  split <;> rfl

/-! ### The queries, keys and values of the first attention -/

theorem idx4 : ∀ t : Fin cfg4.N, win4_0.index t = ![t.val / 6, 0] ∧ win4_1.index t = ![t.val % 6 * 1024, 0] ∧ win4_2.index t = ![t.val / 6, t.val % 6] :=
  (by decide +kernel : ∀ t : Fin grid4.N, _)

theorem emb4 (t : Fin cfg4.N) (y : (win4_1.xblock (grid4.coords t)).Idx) :
    (((View.whole main_v17).slice (win4_1.rect t)).emb y 0).val = t.val % 6 * 1024 + (y 0).val
      ∧ (((View.whole main_v17).slice (win4_1.rect t)).emb y 1).val = (y 1).val := by
  constructor
  · refine (Window.rect_emb_val_off win4_1 t y 0).trans ?_
    rw [(idx4 t).2.1]
    rfl
  · refine (Window.rect_emb_val_off win4_1 t y 1).trans ?_
    rw [(idx4 t).2.1]
    exact Nat.zero_add _

theorem scaled4 : ∀ t : Fin cfg4.N, Scalar.cmpi .slt (Scalar.muli (BitVec.ofNat 32 (grid4.coords t 1).val) 1024#32) 2048#32 = if t.val % 6 < 2 then 1#1 else 0#1 :=
  (by decide +kernel : ∀ t : Fin grid4.N, _)

theorem final4 (c : Dev nD) : (dat4 V c).arrAt 2 cfg4.N = (proj 0 (by norm_num) qs (V c main_v19_1) (V c main_v17 : Mat 20496 4096) : Mat 16384 6144) := by
  refine (dat4 V c).arrAt_eq_of_covers 2 _ (by decide +kernel) fun t _ y => ?_
  blk_simp
  rw [after4_2]
  frame_out
  pointwise [k4_pay1, k5_pay1, proj, mmT]
  rw [scaled4 t, select_ite]
  refine congrArg₂ (· * ·) ?_ ?_
  · blk_point [iblk4, idx4 t]
    · refine (emb4 t _).1.trans ?_
      rfl
    · exact (emb4 t _).2
  · blk_simp [idx4 t]
    have hy : (y 1).val < 1024 := (y 1).isLt
    split_ifs <;> first | rfl | omega

/-! ### The queries, keys and values of the second attention -/

theorem idx5 : ∀ t : Fin cfg5.N, win5_0.index t = ![t.val / 6, 0] ∧ win5_1.index t = ![6160 + t.val % 6 * 1024, 0] ∧ win5_2.index t = ![t.val / 6, t.val % 6] :=
  (by decide +kernel : ∀ t : Fin grid5.N, _)

theorem emb5 (t : Fin cfg5.N) (y : (win5_1.xblock (grid5.coords t)).Idx) :
    (((View.whole main_v17).slice (win5_1.rect t)).emb y 0).val = 6160 + t.val % 6 * 1024 + (y 0).val
      ∧ (((View.whole main_v17).slice (win5_1.rect t)).emb y 1).val = (y 1).val := by
  constructor
  · refine (Window.rect_emb_val_off win5_1 t y 0).trans ?_
    rw [(idx5 t).2.1]
    rfl
  · refine (Window.rect_emb_val_off win5_1 t y 1).trans ?_
    rw [(idx5 t).2.1]
    exact Nat.zero_add _

theorem scaled5 : ∀ t : Fin cfg5.N, Scalar.cmpi .slt (Scalar.muli (BitVec.ofNat 32 (grid5.coords t 1).val) 1024#32) 2048#32 = if t.val % 6 < 2 then 1#1 else 0#1 :=
  (by decide +kernel : ∀ t : Fin grid5.N, _)

theorem final5 (c : Dev nD) : (dat5 V c).arrAt 2 cfg5.N = (proj 6160 (by norm_num) qs (V c main_v19_1) (V c main_v17 : Mat 20496 4096) : Mat 16384 6144) := by
  refine (dat5 V c).arrAt_eq_of_covers 2 _ (by decide +kernel) fun t _ y => ?_
  blk_simp
  rw [after5_2]
  frame_out
  pointwise [k4_pay1, k5_pay1, proj, mmT]
  rw [scaled5 t, select_ite]
  refine congrArg₂ (· * ·) ?_ ?_
  · blk_point [iblk5, idx5 t]
    · refine (emb5 t _).1.trans ?_
      exact Nat.add_assoc 6160 _ _
    · exact (emb5 t _).2
  · blk_simp [idx5 t]
    have hy : (y 1).val < 1024 := (y 1).isLt
    split_ifs <;> first | rfl | omega

/-! ### The gates -/

theorem idx6 : ∀ t : Fin cfg6.N, win6_0.index t = ![t.val / 8, 0] ∧ win6_1.index t = ![12304 + t.val % 8 * 1024, 0] ∧ win6_2.index t = ![t.val / 8, t.val % 8] :=
  (by decide +kernel : ∀ t : Fin grid6.N, _)

theorem emb6 (t : Fin cfg6.N) (y : (win6_1.xblock (grid6.coords t)).Idx) :
    (((View.whole main_v17).slice (win6_1.rect t)).emb y 0).val = 12304 + t.val % 8 * 1024 + (y 0).val
      ∧ (((View.whole main_v17).slice (win6_1.rect t)).emb y 1).val = (y 1).val := by
  constructor
  · refine (Window.rect_emb_val_off win6_1 t y 0).trans ?_
    rw [(idx6 t).2.1]
    rfl
  · refine (Window.rect_emb_val_off win6_1 t y 1).trans ?_
    rw [(idx6 t).2.1]
    exact Nat.zero_add _

theorem final6 (c : Dev nD) : (dat6 V c).arrAt 2 cfg6.N = (gate 12304 (by norm_num) (V c main_v19_1) (V c main_v17 : Mat 20496 4096) : Mat 16384 8192) := by
  refine (dat6 V c).arrAt_eq_of_covers 2 _ (by decide +kernel) fun t _ y => ?_
  blk_simp
  rw [after6_2]
  frame_out
  pointwise [k6_pay1, gate, mmT, sg]
  refine congrArg (fun s => half * Ideal.tanh (half * s) + half) ?_
  blk_point [iblk6, idx6 t]
  · refine (emb6 t _).1.trans ?_
    exact Nat.add_assoc 12304 _ _
  · exact (emb6 t _).2

end Cert.KernelIdeal.Val

end
-- ==== Proof.Run1.lean ====
/- Every run of the program ends with each unscoped buffer at the last boundary's contents: the launch over the
   generated segments, with the whole of the last thread state kept. -/
module

public import proofs.«01_k».proof.Proof.Gen.KernelIdeal.Frame

@[expose] public section

set_option maxRecDepth 16384

noncomputable section

namespace Cert.KernelIdeal.Val
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Where every run leaves the unscoped buffers. -/
theorem run_ends : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun _ h _ => h)

/-- The same at a TensorCore reference. -/
theorem run_at : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W10 m ρ c (Proc.devRef .tc b)) :=
  (θ_run defs _ _).mono (fun _ h c b hb => h c _ (mem_uc b hb)) (run_ends m ρ)

end Cert.KernelIdeal.Val

end
-- ==== Proof.Sem1.lean ====
/- The contents of the results when the calls before the attention have run, as formulas of the arguments. -/
module

public import proofs.«01_k».proof.Proof.Val1
public import proofs.«01_k».proof.Proof.Val1p
public import proofs.«01_k».proof.Proof.Run1
public import proofs.«01_k».proof.Proof.Spec
public import Idealize.ShloMosaic.Lib.Claim

@[expose] public section

set_option maxRecDepth 16384

noncomputable section

namespace Cert.KernelIdeal.Val
open Idealize.ShloMosaic Idealize.ShloMosaic.TcCoe Idealize.ShloMosaic.Tactic Cert.KernelIdeal Cert.KernelIdeal.Gen Cert.Spec
open Idealize.ShloMosaic.Pipeline (Dat Cfg Window)

variable (m : (ℓ : Loc nD τ sig) → Buf (Elt Ideal) ℓ) (ρ : Dev nD → PrngReg) (c : Dev nD)

/-- An argument as launched. -/
abbrev A (r : Ref sig .tc) := m ((c : Thread nD τ).loc r)

/-- The tokens as rows, the weights without their layer axis. -/
abbrev x : Mat 16384 4096 := shapeCast S16384x4096 (A m c main_arg0) shapeCasts_S4x4096x4096_S16384x4096
abbrev wg : Mat 4096 11008 := shapeCast S4096x11008 (A m c main_arg2) shapeCasts_S1x4096x11008_S4096x11008
abbrev wu : Mat 4096 11008 := shapeCast S4096x11008 (A m c main_arg3) shapeCasts_S1x4096x11008_S4096x11008
abbrev wd : Mat 11008 4096 := shapeCast S11008x4096 (A m c main_arg4) shapeCasts_S1x11008x4096_S11008x4096
abbrev win : Mat 4096 20496 := shapeCast S4096x20496 (A m c main_arg7) shapeCasts_S1x4096x20496_S4096x20496
abbrev wof : Mat 2048 4096 := shapeCast S2048x4096 (A m c main_arg8) shapeCasts_S1x2048x4096_S2048x4096
abbrev wod : Mat 2048 4096 := shapeCast S2048x4096 (A m c main_arg9) shapeCasts_S1x2048x4096_S2048x4096
abbrev wout : Mat 4096 4096 := shapeCast S4096x4096 (A m c main_arg10) shapeCasts_S1x4096x4096_S4096x4096

/-- The hidden layer, the residual stream after the feed-forward block, and the mixer's input. -/
def hidden : Mat 16384 11008 := hid (rms (x m c) (A m c main_arg1)) (wg m c) (wu m c)
def h : Mat 16384 4096 := resHalf (x m c) (mm (hidden m c) (wd m c)) (A m c main_arg5)
def u : Mat 16384 4096 := rms (h m c) (A m c main_arg6)

theorem w1_x : W1 m ρ c (Proc.devRef .tc main_v0) = shapeCast S16384x4096 (A m c main_arg0) shapeCasts_S4x4096x4096_S16384x4096 := by
  show StableHlo.after hostOps0 (W0 m ρ c) _ = _
  after_results
  rw [W0_args m ρ c main_arg0 (by decide)]
  rfl

theorem w1_wg : W1 m ρ c (Proc.devRef .tc main_v1) = shapeCast S4096x11008 (A m c main_arg2) shapeCasts_S1x4096x11008_S4096x11008 := by
  show StableHlo.after hostOps0 (W0 m ρ c) _ = _
  after_results
  rw [W0_args m ρ c main_arg2 (by decide)]
  rfl

theorem w1_wu : W1 m ρ c (Proc.devRef .tc main_v2) = shapeCast S4096x11008 (A m c main_arg3) shapeCasts_S1x4096x11008_S4096x11008 := by
  show StableHlo.after hostOps0 (W0 m ρ c) _ = _
  after_results
  rw [W0_args m ρ c main_arg3 (by decide)]
  rfl

theorem w1_pre : W1 m ρ c (Proc.devRef .tc main_v4) = A m c main_arg1 := by
  show StableHlo.after hostOps0 (W0 m ρ c) _ = _
  after_results
  rw [W0_args m ρ c main_arg1 (by decide)]
  funext j
  idx_vars j
  pointwise [A]
  rw [Subsingleton.elim j0 0]

theorem w1_post : W1 m ρ c (Proc.devRef .tc main_v6) = A m c main_arg5 := by
  show StableHlo.after hostOps0 (W0 m ρ c) _ = _
  after_results
  rw [W0_args m ρ c main_arg5 (by decide)]
  funext j
  idx_vars j
  pointwise [A]
  rw [Subsingleton.elim j0 0]

theorem w1_mix : W1 m ρ c (Proc.devRef .tc main_v8) = A m c main_arg6 := by
  show StableHlo.after hostOps0 (W0 m ρ c) _ = _
  after_results
  rw [W0_args m ρ c main_arg6 (by decide)]
  funext j
  idx_vars j
  pointwise [A]
  rw [Subsingleton.elim j0 0]

theorem w2_x : W2 m ρ c (Proc.devRef .tc main_v9) = rms (x m c) (A m c main_arg1) := by
  refine (W2_arr m ρ c 2).trans ((final0 (V1 m ρ) c).trans ?_)
  show rms (W1 m ρ c (Proc.devRef .tc main_v0)) (W1 m ρ c (Proc.devRef .tc main_v4)) = _
  rw [w1_x, w1_pre]

/-- What the first stretch wrote is still there when the gated layer is entered. -/
theorem w3_keep (r : Ref sig .tc) (h1 : r ∉ hostOps1_W) (h0 : ∀ w : Fin cfg0.W, Pipeline.arrRef spec0 w = r → (cfg0.win w).isOut = false) :
    W3 m ρ c (Proc.devRef .tc r) = W1 m ρ c (Proc.devRef .tc r) :=
  (W3_of m ρ c r h1).trans (W2_of m ρ c r h0)

theorem w3_wd : W3 m ρ c (Proc.devRef .tc main_v10) = shapeCast S11008x4096 (A m c main_arg4) shapeCasts_S1x11008x4096_S11008x4096 := by
  show StableHlo.after hostOps1 (W2 m ρ c) _ = _
  after_results
  rw [W2_args m ρ c main_arg4 (by decide)]
  rfl

theorem w3_wof : W3 m ρ c (Proc.devRef .tc main_v11) = shapeCast S2048x4096 (A m c main_arg8) shapeCasts_S1x2048x4096_S2048x4096 := by
  show StableHlo.after hostOps1 (W2 m ρ c) _ = _
  after_results
  rw [W2_args m ρ c main_arg8 (by decide)]
  rfl

theorem w3_wod : W3 m ρ c (Proc.devRef .tc main_v12) = shapeCast S2048x4096 (A m c main_arg9) shapeCasts_S1x2048x4096_S2048x4096 := by
  show StableHlo.after hostOps1 (W2 m ρ c) _ = _
  after_results
  rw [W2_args m ρ c main_arg9 (by decide)]
  rfl

theorem w3_wout : W3 m ρ c (Proc.devRef .tc main_v13) = shapeCast S4096x4096 (A m c main_arg10) shapeCasts_S1x4096x4096_S4096x4096 := by
  show StableHlo.after hostOps1 (W2 m ρ c) _ = _
  after_results
  rw [W2_args m ρ c main_arg10 (by decide)]
  rfl

theorem w4_hid : W4 m ρ c (Proc.devRef .tc main_v14_0) = hidden m c := by
  refine (W4_arr m ρ c 7).trans ((final1_7 (V3 m ρ) c).trans ?_)
  show hid (W3 m ρ c (Proc.devRef .tc main_v9)) (W3 m ρ c (Proc.devRef .tc main_v1)) (W3 m ρ c (Proc.devRef .tc main_v2)) = _
  rw [W3_of m ρ c main_v9 (by decide), w2_x, w3_keep m ρ c main_v1 (by decide) (by decide), w3_keep m ρ c main_v2 (by decide) (by decide), w1_wg, w1_wu]
  rfl

theorem w4_wd : W4 m ρ c (Proc.devRef .tc main_v14_1) = wd m c := (W4_arr m ρ c 8).trans ((final1_8 (V3 m ρ) c).trans (w3_wd m ρ c))
theorem w4_wof : W4 m ρ c (Proc.devRef .tc main_v14_2) = wof m c := (W4_arr m ρ c 9).trans ((final1_9 (V3 m ρ) c).trans (w3_wof m ρ c))
theorem w4_wod : W4 m ρ c (Proc.devRef .tc main_v14_3) = wod m c := (W4_arr m ρ c 10).trans ((final1_10 (V3 m ρ) c).trans (w3_wod m ρ c))
theorem w4_wout : W4 m ρ c (Proc.devRef .tc main_v14_4) = wout m c := (W4_arr m ρ c 11).trans ((final1_11 (V3 m ρ) c).trans (w3_wout m ρ c))

/-- What the first stretch wrote is still there after the gated layer, and after the down projection. -/
theorem w6_keep (r : Ref sig .tc) (h1 : r ∉ hostOps1_W) (h0 : ∀ w : Fin cfg0.W, Pipeline.arrRef spec0 w = r → (cfg0.win w).isOut = false)
    (h2 : r ∉ hostOps2_W) (h3 : ∀ w : Fin cfg1.W, Pipeline.arrRef spec1 w = r → (cfg1.win w).isOut = false)
    (h4 : ∀ w : Fin cfg2.W, Pipeline.arrRef spec2 w = r → (cfg2.win w).isOut = false) :
    W6 m ρ c (Proc.devRef .tc r) = W1 m ρ c (Proc.devRef .tc r) :=
  (W6_of m ρ c r h4).trans ((W5_of m ρ c r h2).trans ((W4_of m ρ c r h3).trans (w3_keep m ρ c r h1 h0)))

/-- The transposed weight, cast. -/
theorem cast_tr (w : Mat 4096 20496) :
    truncf (F := Ideal) (φ := .f32) .bf16 (transpose S20496x4096 [1, 0] w transposes_S4096x20496_S20496x4096_1_0) bitsLt_bf16_f32 = tr w := by
  funext j
  refine congrArg w (funext fun a => Fin.ext ?_)
  fin_cases a <;> rfl

theorem w5_w : W5 m ρ c (Proc.devRef .tc main_v17) = tr (win m c) := by
  show StableHlo.after hostOps2 (W4 m ρ c) _ = _
  after_results
  rw [W4_args m ρ c main_arg7 (by decide)]
  exact cast_tr _

theorem w6_y : W6 m ρ c (Proc.devRef .tc main_v18) = mm (hidden m c) (wd m c) := by
  refine (W6_arr m ρ c 2).trans ((final2 (V5 m ρ) c).trans ?_)
  show mm (W5 m ρ c (Proc.devRef .tc main_v14_0)) (W5 m ρ c (Proc.devRef .tc main_v14_1)) = _
  rw [W5_of m ρ c main_v14_0 (by decide), W5_of m ρ c main_v14_1 (by decide), w4_hid, w4_wd]

theorem w6_x : W6 m ρ c (Proc.devRef .tc main_v0) = x m c := (w6_keep m ρ c main_v0 (by decide) (by decide) (by decide) (by decide) (by decide)).trans (w1_x m ρ c)
theorem w6_post : W6 m ρ c (Proc.devRef .tc main_v6) = A m c main_arg5 := (w6_keep m ρ c main_v6 (by decide) (by decide) (by decide) (by decide) (by decide)).trans (w1_post m ρ c)
theorem w6_mix : W6 m ρ c (Proc.devRef .tc main_v8) = A m c main_arg6 := (w6_keep m ρ c main_v8 (by decide) (by decide) (by decide) (by decide) (by decide)).trans (w1_mix m ρ c)

theorem w7_h : W7 m ρ c (Proc.devRef .tc main_v19_0) = h m c := by
  refine (W7_arr m ρ c 4).trans ((final3_4 (V6 m ρ) c).trans ?_)
  show resHalf (W6 m ρ c (Proc.devRef .tc main_v0)) (W6 m ρ c (Proc.devRef .tc main_v18)) (W6 m ρ c (Proc.devRef .tc main_v6)) = _
  rw [w6_x, w6_y, w6_post]
  rfl

theorem w7_u : W7 m ρ c (Proc.devRef .tc main_v19_1) = u m c := by
  refine (W7_arr m ρ c 5).trans ((final3_5 (V6 m ρ) c).trans ?_)
  show rms (resHalf (W6 m ρ c (Proc.devRef .tc main_v0)) (W6 m ρ c (Proc.devRef .tc main_v18)) (W6 m ρ c (Proc.devRef .tc main_v6))) (W6 m ρ c (Proc.devRef .tc main_v8)) = _
  rw [w6_x, w6_y, w6_post, w6_mix]
  rfl

theorem w7_w : W7 m ρ c (Proc.devRef .tc main_v17) = tr (win m c) := by
  rw [W7_of m ρ c main_v17 (by decide), W6_of m ρ c main_v17 (by decide), w5_w]

/-- The name of the kernel's scale stands for (√128)⁻¹ (ln 2)⁻¹. -/
theorem qs_eq : qs = scale := rfl

theorem w8_fox : W8 m ρ c (Proc.devRef .tc main_v20) = (part 0 (by norm_num) scale (mm (u m c) (win m c)) : Mat 16384 6144) := by
  refine (W8_arr m ρ c 2).trans ((final4 (V7 m ρ) c).trans ?_)
  show (proj 0 _ qs (W7 m ρ c (Proc.devRef .tc main_v19_1)) (W7 m ρ c (Proc.devRef .tc main_v17) : Mat 20496 4096) : Mat 16384 6144) = _
  rw [w7_u, w7_w, qs_eq]
  exact proj_tr ..

theorem w9_diff : W9 m ρ c (Proc.devRef .tc main_v21) = (part 6160 (by norm_num) scale (mm (u m c) (win m c)) : Mat 16384 6144) := by
  refine (W9_arr m ρ c 2).trans ((final5 (V8 m ρ) c).trans ?_)
  show (proj 6160 _ qs (W8 m ρ c (Proc.devRef .tc main_v19_1)) (W8 m ρ c (Proc.devRef .tc main_v17) : Mat 20496 4096) : Mat 16384 6144) = _
  rw [W8_of m ρ c main_v19_1 (by decide), W8_of m ρ c main_v17 (by decide), w7_u, w7_w, qs_eq]
  exact proj_tr ..

theorem w10_gates : W10 m ρ c (Proc.devRef .tc main_v22) = (gated 12304 (by norm_num) (mm (u m c) (win m c)) : Mat 16384 8192) := by
  refine (W10_arr m ρ c 2).trans ((final6 (V9 m ρ) c).trans ?_)
  show (gate 12304 _ (W9 m ρ c (Proc.devRef .tc main_v19_1)) (W9 m ρ c (Proc.devRef .tc main_v17) : Mat 20496 4096) : Mat 16384 8192) = _
  rw [W9_of m ρ c main_v19_1 (by decide), W9_of m ρ c main_v17 (by decide), W8_of m ρ c main_v19_1 (by decide), W8_of m ρ c main_v17 (by decide), w7_u, w7_w]
  exact gate_tr ..

/-- The eight results at the end. -/
theorem w10_h : W10 m ρ c (Proc.devRef .tc main_v19_0) = h m c := by
  rw [W10_of m ρ c main_v19_0 (by decide), W9_of m ρ c main_v19_0 (by decide), W8_of m ρ c main_v19_0 (by decide), w7_h]
theorem w10_u : W10 m ρ c (Proc.devRef .tc main_v19_1) = u m c := by
  rw [W10_of m ρ c main_v19_1 (by decide), W9_of m ρ c main_v19_1 (by decide), W8_of m ρ c main_v19_1 (by decide), w7_u]
theorem w10_fox : W10 m ρ c (Proc.devRef .tc main_v20) = (part 0 (by norm_num) scale (mm (u m c) (win m c)) : Mat 16384 6144) := by
  rw [W10_of m ρ c main_v20 (by decide), W9_of m ρ c main_v20 (by decide), w8_fox]
theorem w10_diff : W10 m ρ c (Proc.devRef .tc main_v21) = (part 6160 (by norm_num) scale (mm (u m c) (win m c)) : Mat 16384 6144) := by
  rw [W10_of m ρ c main_v21 (by decide), w9_diff]

/-- What the gated layer's call wrote is still there at the end. -/
theorem w10_keep (r : Ref sig .tc) (h2 : r ∉ hostOps2_W) (g2 : ∀ w : Fin cfg2.W, Pipeline.arrRef spec2 w = r → (cfg2.win w).isOut = false)
    (g3 : ∀ w : Fin cfg3.W, Pipeline.arrRef spec3 w = r → (cfg3.win w).isOut = false) (g4 : ∀ w : Fin cfg4.W, Pipeline.arrRef spec4 w = r → (cfg4.win w).isOut = false)
    (g5 : ∀ w : Fin cfg5.W, Pipeline.arrRef spec5 w = r → (cfg5.win w).isOut = false) (g6 : ∀ w : Fin cfg6.W, Pipeline.arrRef spec6 w = r → (cfg6.win w).isOut = false) :
    W10 m ρ c (Proc.devRef .tc r) = W4 m ρ c (Proc.devRef .tc r) := by
  rw [W10_of m ρ c r g6, W9_of m ρ c r g5, W8_of m ρ c r g4, W7_of m ρ c r g3, W6_of m ρ c r g2, W5_of m ρ c r h2]

theorem w10_wof : W10 m ρ c (Proc.devRef .tc main_v14_2) = wof m c :=
  (w10_keep m ρ c main_v14_2 (by decide) (by decide) (by decide) (by decide) (by decide) (by decide)).trans (w4_wof m ρ c)
theorem w10_wod : W10 m ρ c (Proc.devRef .tc main_v14_3) = wod m c :=
  (w10_keep m ρ c main_v14_3 (by decide) (by decide) (by decide) (by decide) (by decide) (by decide)).trans (w4_wod m ρ c)
theorem w10_wout : W10 m ρ c (Proc.devRef .tc main_v14_4) = wout m c :=
  (w10_keep m ρ c main_v14_4 (by decide) (by decide) (by decide) (by decide) (by decide) (by decide)).trans (w4_wout m ρ c)

end Cert.KernelIdeal.Val

end
-- ==== Proof.Ref1.lean ====
/- The reference of the calls before the attention, as its list of host operations cut into parts: what each part computes, and the run of the whole. -/
module

public import proofs.«01_k».proof.Proof.Gen.ReferenceIdeal
public import proofs.«01_k».proof.Proof.Spec
public import Idealize.ShloMosaic.Lib.StableHlo.Run
public import Idealize.ShloMosaic.Lib.StableHlo.RunRead
public import Idealize.ShloMosaic.Lib.Pipeline.Frame
public import Idealize.ShloMosaic.Lib.Pipeline.Value
public import Idealize.ShloMosaic.Lib.Claim

@[expose] public section

set_option maxRecDepth 16384

noncomputable section

namespace Cert.ReferenceIdeal.Line
open Cert.ReferenceIdeal Cert.ReferenceIdeal.Gen Idealize.ShloMosaic Idealize.ShloMosaic.TcCoe Idealize.SL.Sem Idealize.ShloMosaic.StableHlo Cert.Spec

section
variable {F : FTy → Type} [FloatOps F]

def fn_main_v66 : (main_v65 : Ref sig .tc).ty.Contents (Elt F) → (main_v51 : Ref sig .tc).ty.Contents (Elt F) → (main_v52 : Ref sig .tc).ty.Contents (Elt F) → (main_v66 : Ref sig .tc).ty.Contents (Elt F) :=
  (fun u0 u1 u2 => (concatenate S16384x6144 1 [⟨S16384x2048, (u0 : (⟨S16384x2048, .f32⟩ : BufTy).Contents (Elt F))⟩, ⟨S16384x2048, (u1 : (⟨S16384x2048, .f32⟩ : BufTy).Contents (Elt F))⟩, ⟨S16384x2048, (u2 : (⟨S16384x2048, .f32⟩ : BufTy).Contents (Elt F))⟩] concatenates_S16384x2048_S16384x2048_S16384x2048_S16384x6144_d1 : (⟨S16384x6144, .f32⟩ : BufTy).Contents (Elt F)))
def fn_main_v72 : (main_v71 : Ref sig .tc).ty.Contents (Elt F) → (main_v55 : Ref sig .tc).ty.Contents (Elt F) → (main_v56 : Ref sig .tc).ty.Contents (Elt F) → (main_v72 : Ref sig .tc).ty.Contents (Elt F) :=
  (fun u0 u1 u2 => (concatenate S16384x6144 1 [⟨S16384x2048, (u0 : (⟨S16384x2048, .f32⟩ : BufTy).Contents (Elt F))⟩, ⟨S16384x2048, (u1 : (⟨S16384x2048, .f32⟩ : BufTy).Contents (Elt F))⟩, ⟨S16384x2048, (u2 : (⟨S16384x2048, .f32⟩ : BufTy).Contents (Elt F))⟩] concatenates_S16384x2048_S16384x2048_S16384x2048_S16384x6144_d1 : (⟨S16384x6144, .f32⟩ : BufTy).Contents (Elt F)))
def fn_main_v86 : (⟨S16384x4096, .f32⟩ : BufTy).Contents (Elt F) → (⟨S16384x4096, .f32⟩ : BufTy).Contents (Elt F) → (⟨S16384x8192, .f32⟩ : BufTy).Contents (Elt F) :=
  (fun a b => concatenate S16384x8192 1 [⟨S16384x4096, a⟩, ⟨S16384x4096, b⟩] concatenates_S16384x4096_S16384x4096_S16384x8192_d1)

/-- The first norm. -/
abbrev opsPre : List (HloOp τ sig (Elt F)) :=
  [ reshape main_arg0 main_v0 (rfl : (.f32 : EltTy) = .f32) shapeCasts_S4x4096x4096_S16384x4096,
    binary main_v0 main_v0 main_v1 (mulf : (⟨S16384x4096, .f32⟩ : BufTy).Contents (Elt F) → (⟨S16384x4096, .f32⟩ : BufTy).Contents (Elt F) → (⟨S16384x4096, .f32⟩ : BufTy).Contents (Elt F)),
    nullary main_cst (constant S_ .f32 0x00000000#32),
    binary main_v1 main_cst main_v2 ((fun x v => Host.reduceAdd x v reducesTo_S16384x4096_S16384_d1 h_S_) : (⟨S16384x4096, .f32⟩ : BufTy).Contents (Elt F) → (⟨S_, .f32⟩ : BufTy).Contents (Elt F) → (⟨S16384, .f32⟩ : BufTy).Contents (Elt F)),
    unary main_v2 main_v3 (broadcastInDim S16384x1 ![0] bcast_S16384_S16384x1_0 : (⟨S16384, .f32⟩ : BufTy).Contents (Elt F) → (⟨S16384x1, .f32⟩ : BufTy).Contents (Elt F)),
    nullary main_cst_0 (constant S_ .f32 0x45800000#32),
    unary main_cst_0 main_v4 (broadcastInDim S16384x1 ![] bcast_S_S16384x1 : (⟨S_, .f32⟩ : BufTy).Contents (Elt F) → (⟨S16384x1, .f32⟩ : BufTy).Contents (Elt F)),
    binary main_v3 main_v4 main_v5 (Host.divf : (⟨S16384x1, .f32⟩ : BufTy).Contents (Elt F) → (⟨S16384x1, .f32⟩ : BufTy).Contents (Elt F) → (⟨S16384x1, .f32⟩ : BufTy).Contents (Elt F)),
    nullary main_cst_1 (constant S_ .f32 0x358637BD#32),
    unary main_cst_1 main_v6 (broadcastInDim S16384x1 ![] bcast_S_S16384x1 : (⟨S_, .f32⟩ : BufTy).Contents (Elt F) → (⟨S16384x1, .f32⟩ : BufTy).Contents (Elt F)),
    binary main_v5 main_v6 main_v7 (addf : (⟨S16384x1, .f32⟩ : BufTy).Contents (Elt F) → (⟨S16384x1, .f32⟩ : BufTy).Contents (Elt F) → (⟨S16384x1, .f32⟩ : BufTy).Contents (Elt F)),
    unary main_v7 main_v8 (Host.rsqrt : (⟨S16384x1, .f32⟩ : BufTy).Contents (Elt F) → (⟨S16384x1, .f32⟩ : BufTy).Contents (Elt F)),
    unary main_v8 main_v9 (broadcastInDim S16384x4096 ![0, 1] bcast_S16384x1_S16384x4096_0_1 : (⟨S16384x1, .f32⟩ : BufTy).Contents (Elt F) → (⟨S16384x4096, .f32⟩ : BufTy).Contents (Elt F)),
    binary main_v0 main_v9 main_v10 (mulf : (⟨S16384x4096, .f32⟩ : BufTy).Contents (Elt F) → (⟨S16384x4096, .f32⟩ : BufTy).Contents (Elt F) → (⟨S16384x4096, .f32⟩ : BufTy).Contents (Elt F)),
    unary main_arg1 main_v11 (broadcastInDim S16384x4096 ![0, 1] bcast_S1x4096_S16384x4096_0_1 : (⟨S1x4096, .f32⟩ : BufTy).Contents (Elt F) → (⟨S16384x4096, .f32⟩ : BufTy).Contents (Elt F)),
    binary main_v10 main_v11 main_v12 (mulf : (⟨S16384x4096, .f32⟩ : BufTy).Contents (Elt F) → (⟨S16384x4096, .f32⟩ : BufTy).Contents (Elt F) → (⟨S16384x4096, .f32⟩ : BufTy).Contents (Elt F)) ]

theorem opsPre_sub : (opsPre (F := F)).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub ..⟩

theorem opsPre_keeps (V : Valuation τ sig (Elt F)) {r : Ref sig .tc} (h : r ∉ ([main_v0, main_v1, main_cst, main_v2, main_v3, main_cst_0, main_v4, main_v5, main_cst_1, main_v6, main_v7, main_v8, main_v9, main_v10, main_v11, main_v12] : List (Ref sig .tc))) :
    after opsPre V (no_index (Proc.devRef .tc r)) = V (Proc.devRef .tc r) :=
  after_unwritten _ rfl h V

/-- The gated hidden layer. -/
abbrev opsHid : List (HloOp τ sig (Elt F)) :=
  [ reshape main_arg2 main_v13 (rfl : (.f32 : EltTy) = .f32) shapeCasts_S1x4096x11008_S4096x11008,
    reshape main_arg3 main_v14 (rfl : (.f32 : EltTy) = .f32) shapeCasts_S1x4096x11008_S4096x11008,
    reshape main_arg4 main_v15 (rfl : (.f32 : EltTy) = .f32) shapeCasts_S1x11008x4096_S11008x4096,
    binary main_v12 main_v13 main_v16 ((fun l r => Host.dotGeneral dot_S16384x4096_S4096x11008_S16384x11008_1_0_0_1_n_n none l r) : (⟨S16384x4096, .f32⟩ : BufTy).Contents (Elt F) → (⟨S4096x11008, .f32⟩ : BufTy).Contents (Elt F) → (⟨S16384x11008, .f32⟩ : BufTy).Contents (Elt F)),
    TRef.unary (TRef.of (T := ⟨S16384x11008, .f32⟩) main_v16) (TRef.of (T := ⟨S16384x11008, .f32⟩) main_call0_v0) Host.negf,
    TRef.unary (TRef.of (T := ⟨S16384x11008, .f32⟩) main_call0_v0) (TRef.of (T := ⟨S16384x11008, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S16384x11008, .f32⟩) main_call0_v2) (broadcastInDim S16384x11008 ![] bcast_S_S16384x11008),
    TRef.binary (TRef.of (T := ⟨S16384x11008, .f32⟩) main_call0_v2) (TRef.of (T := ⟨S16384x11008, .f32⟩) main_call0_v1) (TRef.of (T := ⟨S16384x11008, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S16384x11008, .f32⟩) main_call0_v4) (broadcastInDim S16384x11008 ![] bcast_S_S16384x11008),
    TRef.binary (TRef.of (T := ⟨S16384x11008, .f32⟩) main_call0_v4) (TRef.of (T := ⟨S16384x11008, .f32⟩) main_call0_v3) (TRef.of (T := ⟨S16384x11008, .f32⟩) main_call0_v5) Host.divf,
    TRef.binary (TRef.of (T := ⟨S16384x11008, .f32⟩) main_v16) (TRef.of (T := ⟨S16384x11008, .f32⟩) main_call0_v5) (TRef.of (T := ⟨S16384x11008, .f32⟩) main_v17) mulf,
    binary main_v12 main_v14 main_v18 ((fun l r => Host.dotGeneral dot_S16384x4096_S4096x11008_S16384x11008_1_0_0_1_n_n none l r) : (⟨S16384x4096, .f32⟩ : BufTy).Contents (Elt F) → (⟨S4096x11008, .f32⟩ : BufTy).Contents (Elt F) → (⟨S16384x11008, .f32⟩ : BufTy).Contents (Elt F)),
    binary main_v17 main_v18 main_v19 (mulf : (⟨S16384x11008, .f32⟩ : BufTy).Contents (Elt F) → (⟨S16384x11008, .f32⟩ : BufTy).Contents (Elt F) → (⟨S16384x11008, .f32⟩ : BufTy).Contents (Elt F)) ]

theorem opsHid_sub : (opsHid (F := F)).Forall fun op => op.bufs ⊆ tcRefs τ sig :=
  ⟨reshape_bufs_sub .., reshape_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub ..⟩

theorem opsHid_keeps (V : Valuation τ sig (Elt F)) {r : Ref sig .tc} (h : r ∉ ([main_v13, main_v14, main_v15, main_v16, main_call0_v0, main_call0_v1, main_call0_cst, main_call0_v2, main_call0_v3, main_call0_cst_0, main_call0_v4, main_call0_v5, main_v17, main_v18, main_v19] : List (Ref sig .tc))) :
    after opsHid V (no_index (Proc.devRef .tc r)) = V (Proc.devRef .tc r) :=
  after_unwritten _ rfl h V

/-- The down projection. -/
abbrev opsDown : List (HloOp τ sig (Elt F)) :=
  [ binary main_v19 main_v15 main_v20 ((fun l r => Host.dotGeneral dot_S16384x11008_S11008x4096_S16384x4096_1_0_0_1_n_n none l r) : (⟨S16384x11008, .f32⟩ : BufTy).Contents (Elt F) → (⟨S11008x4096, .f32⟩ : BufTy).Contents (Elt F) → (⟨S16384x4096, .f32⟩ : BufTy).Contents (Elt F)) ]

theorem opsDown_sub : (opsDown (F := F)).Forall fun op => op.bufs ⊆ tcRefs τ sig :=
  binary_bufs_sub ..

theorem opsDown_keeps (V : Valuation τ sig (Elt F)) {r : Ref sig .tc} (h : r ∉ ([main_v20] : List (Ref sig .tc))) :
    after opsDown V (no_index (Proc.devRef .tc r)) = V (Proc.devRef .tc r) :=
  after_unwritten _ rfl h V

/-- The norm of the block's output and its residual connection. -/
abbrev opsRes : List (HloOp τ sig (Elt F)) :=
  [ binary main_v20 main_v20 main_v21 (mulf : (⟨S16384x4096, .f32⟩ : BufTy).Contents (Elt F) → (⟨S16384x4096, .f32⟩ : BufTy).Contents (Elt F) → (⟨S16384x4096, .f32⟩ : BufTy).Contents (Elt F)),
    nullary main_cst_2 (constant S_ .f32 0x00000000#32),
    binary main_v21 main_cst_2 main_v22 ((fun x v => Host.reduceAdd x v reducesTo_S16384x4096_S16384_d1 h_S_) : (⟨S16384x4096, .f32⟩ : BufTy).Contents (Elt F) → (⟨S_, .f32⟩ : BufTy).Contents (Elt F) → (⟨S16384, .f32⟩ : BufTy).Contents (Elt F)),
    unary main_v22 main_v23 (broadcastInDim S16384x1 ![0] bcast_S16384_S16384x1_0 : (⟨S16384, .f32⟩ : BufTy).Contents (Elt F) → (⟨S16384x1, .f32⟩ : BufTy).Contents (Elt F)),
    nullary main_cst_3 (constant S_ .f32 0x45800000#32),
    unary main_cst_3 main_v24 (broadcastInDim S16384x1 ![] bcast_S_S16384x1 : (⟨S_, .f32⟩ : BufTy).Contents (Elt F) → (⟨S16384x1, .f32⟩ : BufTy).Contents (Elt F)),
    binary main_v23 main_v24 main_v25 (Host.divf : (⟨S16384x1, .f32⟩ : BufTy).Contents (Elt F) → (⟨S16384x1, .f32⟩ : BufTy).Contents (Elt F) → (⟨S16384x1, .f32⟩ : BufTy).Contents (Elt F)),
    nullary main_cst_4 (constant S_ .f32 0x358637BD#32),
    unary main_cst_4 main_v26 (broadcastInDim S16384x1 ![] bcast_S_S16384x1 : (⟨S_, .f32⟩ : BufTy).Contents (Elt F) → (⟨S16384x1, .f32⟩ : BufTy).Contents (Elt F)),
    binary main_v25 main_v26 main_v27 (addf : (⟨S16384x1, .f32⟩ : BufTy).Contents (Elt F) → (⟨S16384x1, .f32⟩ : BufTy).Contents (Elt F) → (⟨S16384x1, .f32⟩ : BufTy).Contents (Elt F)),
    unary main_v27 main_v28 (Host.rsqrt : (⟨S16384x1, .f32⟩ : BufTy).Contents (Elt F) → (⟨S16384x1, .f32⟩ : BufTy).Contents (Elt F)),
    unary main_v28 main_v29 (broadcastInDim S16384x4096 ![0, 1] bcast_S16384x1_S16384x4096_0_1 : (⟨S16384x1, .f32⟩ : BufTy).Contents (Elt F) → (⟨S16384x4096, .f32⟩ : BufTy).Contents (Elt F)),
    binary main_v20 main_v29 main_v30 (mulf : (⟨S16384x4096, .f32⟩ : BufTy).Contents (Elt F) → (⟨S16384x4096, .f32⟩ : BufTy).Contents (Elt F) → (⟨S16384x4096, .f32⟩ : BufTy).Contents (Elt F)),
    unary main_arg5 main_v31 (broadcastInDim S16384x4096 ![0, 1] bcast_S1x4096_S16384x4096_0_1 : (⟨S1x4096, .f32⟩ : BufTy).Contents (Elt F) → (⟨S16384x4096, .f32⟩ : BufTy).Contents (Elt F)),
    binary main_v30 main_v31 main_v32 (mulf : (⟨S16384x4096, .f32⟩ : BufTy).Contents (Elt F) → (⟨S16384x4096, .f32⟩ : BufTy).Contents (Elt F) → (⟨S16384x4096, .f32⟩ : BufTy).Contents (Elt F)),
    nullary main_cst_5 (constant S_ .f32 0x3F000000#32),
    unary main_cst_5 main_v33 (broadcastInDim S16384x4096 ![] bcast_S_S16384x4096 : (⟨S_, .f32⟩ : BufTy).Contents (Elt F) → (⟨S16384x4096, .f32⟩ : BufTy).Contents (Elt F)),
    binary main_v33 main_v32 main_v34 (mulf : (⟨S16384x4096, .f32⟩ : BufTy).Contents (Elt F) → (⟨S16384x4096, .f32⟩ : BufTy).Contents (Elt F) → (⟨S16384x4096, .f32⟩ : BufTy).Contents (Elt F)),
    binary main_v0 main_v34 main_v35 (addf : (⟨S16384x4096, .f32⟩ : BufTy).Contents (Elt F) → (⟨S16384x4096, .f32⟩ : BufTy).Contents (Elt F) → (⟨S16384x4096, .f32⟩ : BufTy).Contents (Elt F)) ]

theorem opsRes_sub : (opsRes (F := F)).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub .., nullary_bufs_sub .., unary_bufs_sub .., binary_bufs_sub .., binary_bufs_sub ..⟩

theorem opsRes_keeps (V : Valuation τ sig (Elt F)) {r : Ref sig .tc} (h : r ∉ ([main_v21, main_cst_2, main_v22, main_v23, main_cst_3, main_v24, main_v25, main_cst_4, main_v26, main_v27, main_v28, main_v29, main_v30, main_v31, main_v32, main_cst_5, main_v33, main_v34, main_v35] : List (Ref sig .tc))) :
    after opsRes V (no_index (Proc.devRef .tc r)) = V (Proc.devRef .tc r) :=
  after_unwritten _ rfl h V

/-- The norm of the mixer's input. -/
abbrev opsNorm : List (HloOp τ sig (Elt F)) :=
  [ binary main_v35 main_v35 main_v36 (mulf : (⟨S16384x4096, .f32⟩ : BufTy).Contents (Elt F) → (⟨S16384x4096, .f32⟩ : BufTy).Contents (Elt F) → (⟨S16384x4096, .f32⟩ : BufTy).Contents (Elt F)),
    nullary main_cst_6 (constant S_ .f32 0x00000000#32),
    binary main_v36 main_cst_6 main_v37 ((fun x v => Host.reduceAdd x v reducesTo_S16384x4096_S16384_d1 h_S_) : (⟨S16384x4096, .f32⟩ : BufTy).Contents (Elt F) → (⟨S_, .f32⟩ : BufTy).Contents (Elt F) → (⟨S16384, .f32⟩ : BufTy).Contents (Elt F)),
    unary main_v37 main_v38 (broadcastInDim S16384x1 ![0] bcast_S16384_S16384x1_0 : (⟨S16384, .f32⟩ : BufTy).Contents (Elt F) → (⟨S16384x1, .f32⟩ : BufTy).Contents (Elt F)),
    nullary main_cst_7 (constant S_ .f32 0x45800000#32),
    unary main_cst_7 main_v39 (broadcastInDim S16384x1 ![] bcast_S_S16384x1 : (⟨S_, .f32⟩ : BufTy).Contents (Elt F) → (⟨S16384x1, .f32⟩ : BufTy).Contents (Elt F)),
    binary main_v38 main_v39 main_v40 (Host.divf : (⟨S16384x1, .f32⟩ : BufTy).Contents (Elt F) → (⟨S16384x1, .f32⟩ : BufTy).Contents (Elt F) → (⟨S16384x1, .f32⟩ : BufTy).Contents (Elt F)),
    nullary main_cst_8 (constant S_ .f32 0x358637BD#32),
    unary main_cst_8 main_v41 (broadcastInDim S16384x1 ![] bcast_S_S16384x1 : (⟨S_, .f32⟩ : BufTy).Contents (Elt F) → (⟨S16384x1, .f32⟩ : BufTy).Contents (Elt F)),
    binary main_v40 main_v41 main_v42 (addf : (⟨S16384x1, .f32⟩ : BufTy).Contents (Elt F) → (⟨S16384x1, .f32⟩ : BufTy).Contents (Elt F) → (⟨S16384x1, .f32⟩ : BufTy).Contents (Elt F)),
    unary main_v42 main_v43 (Host.rsqrt : (⟨S16384x1, .f32⟩ : BufTy).Contents (Elt F) → (⟨S16384x1, .f32⟩ : BufTy).Contents (Elt F)),
    unary main_v43 main_v44 (broadcastInDim S16384x4096 ![0, 1] bcast_S16384x1_S16384x4096_0_1 : (⟨S16384x1, .f32⟩ : BufTy).Contents (Elt F) → (⟨S16384x4096, .f32⟩ : BufTy).Contents (Elt F)),
    binary main_v35 main_v44 main_v45 (mulf : (⟨S16384x4096, .f32⟩ : BufTy).Contents (Elt F) → (⟨S16384x4096, .f32⟩ : BufTy).Contents (Elt F) → (⟨S16384x4096, .f32⟩ : BufTy).Contents (Elt F)),
    unary main_arg6 main_v46 (broadcastInDim S16384x4096 ![0, 1] bcast_S1x4096_S16384x4096_0_1 : (⟨S1x4096, .f32⟩ : BufTy).Contents (Elt F) → (⟨S16384x4096, .f32⟩ : BufTy).Contents (Elt F)),
    binary main_v45 main_v46 main_v47 (mulf : (⟨S16384x4096, .f32⟩ : BufTy).Contents (Elt F) → (⟨S16384x4096, .f32⟩ : BufTy).Contents (Elt F) → (⟨S16384x4096, .f32⟩ : BufTy).Contents (Elt F)) ]

theorem opsNorm_sub : (opsNorm (F := F)).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub ..⟩

theorem opsNorm_keeps (V : Valuation τ sig (Elt F)) {r : Ref sig .tc} (h : r ∉ ([main_v36, main_cst_6, main_v37, main_v38, main_cst_7, main_v39, main_v40, main_cst_8, main_v41, main_v42, main_v43, main_v44, main_v45, main_v46, main_v47] : List (Ref sig .tc))) :
    after opsNorm V (no_index (Proc.devRef .tc r)) = V (Proc.devRef .tc r) :=
  after_unwritten _ rfl h V

/-- The input projection. -/
abbrev opsIn : List (HloOp τ sig (Elt F)) :=
  [ reshape main_arg7 main_v48 (rfl : (.f32 : EltTy) = .f32) shapeCasts_S1x4096x20496_S4096x20496,
    binary main_v47 main_v48 main_v49 ((fun l r => Host.dotGeneral dot_S16384x4096_S4096x20496_S16384x20496_1_0_0_1_n_n none l r) : (⟨S16384x4096, .f32⟩ : BufTy).Contents (Elt F) → (⟨S4096x20496, .f32⟩ : BufTy).Contents (Elt F) → (⟨S16384x20496, .f32⟩ : BufTy).Contents (Elt F)) ]

theorem opsIn_sub : (opsIn (F := F)).Forall fun op => op.bufs ⊆ tcRefs τ sig :=
  ⟨reshape_bufs_sub .., binary_bufs_sub ..⟩

theorem opsIn_keeps (V : Valuation τ sig (Elt F)) {r : Ref sig .tc} (h : r ∉ ([main_v48, main_v49] : List (Ref sig .tc))) :
    after opsIn V (no_index (Proc.devRef .tc r)) = V (Proc.devRef .tc r) :=
  after_unwritten _ rfl h V

/-- The parts of the projection, scaled or gated, and the casts. -/
abbrev opsParts : List (HloOp τ sig (Elt F)) :=
  [ unary main_v49 main_v50 ((extractStridedSlice S16384x2048 ![0, 0] · slices_S16384x20496_S16384x2048_0_0) : (⟨S16384x20496, .f32⟩ : BufTy).Contents (Elt F) → (⟨S16384x2048, .f32⟩ : BufTy).Contents (Elt F)),
    unary main_v49 main_v51 ((extractStridedSlice S16384x2048 ![0, 2048] · slices_S16384x20496_S16384x2048_0_2048) : (⟨S16384x20496, .f32⟩ : BufTy).Contents (Elt F) → (⟨S16384x2048, .f32⟩ : BufTy).Contents (Elt F)),
    unary main_v49 main_v52 ((extractStridedSlice S16384x2048 ![0, 4096] · slices_S16384x20496_S16384x2048_0_4096) : (⟨S16384x20496, .f32⟩ : BufTy).Contents (Elt F) → (⟨S16384x2048, .f32⟩ : BufTy).Contents (Elt F)),
    unary main_v49 main_v53 ((extractStridedSlice S16384x16 ![0, 6144] · slices_S16384x20496_S16384x16_0_6144) : (⟨S16384x20496, .f32⟩ : BufTy).Contents (Elt F) → (⟨S16384x16, .f32⟩ : BufTy).Contents (Elt F)),
    unary main_v49 main_v54 ((extractStridedSlice S16384x2048 ![0, 6160] · slices_S16384x20496_S16384x2048_0_6160) : (⟨S16384x20496, .f32⟩ : BufTy).Contents (Elt F) → (⟨S16384x2048, .f32⟩ : BufTy).Contents (Elt F)),
    unary main_v49 main_v55 ((extractStridedSlice S16384x2048 ![0, 8208] · slices_S16384x20496_S16384x2048_0_8208) : (⟨S16384x20496, .f32⟩ : BufTy).Contents (Elt F) → (⟨S16384x2048, .f32⟩ : BufTy).Contents (Elt F)),
    unary main_v49 main_v56 ((extractStridedSlice S16384x2048 ![0, 10256] · slices_S16384x20496_S16384x2048_0_10256) : (⟨S16384x20496, .f32⟩ : BufTy).Contents (Elt F) → (⟨S16384x2048, .f32⟩ : BufTy).Contents (Elt F)),
    unary main_v49 main_v57 ((extractStridedSlice S16384x4096 ![0, 12304] · slices_S16384x20496_S16384x4096_0_12304) : (⟨S16384x20496, .f32⟩ : BufTy).Contents (Elt F) → (⟨S16384x4096, .f32⟩ : BufTy).Contents (Elt F)),
    unary main_v49 main_v58 ((extractStridedSlice S16384x4096 ![0, 16400] · slices_S16384x20496_S16384x4096_0_16400) : (⟨S16384x20496, .f32⟩ : BufTy).Contents (Elt F) → (⟨S16384x4096, .f32⟩ : BufTy).Contents (Elt F)),
    nullary main_cst_9 (constant S_ .f32 0x43000000#32),
    unary main_cst_9 main_v59 (Host.sqrt : (⟨S_, .f32⟩ : BufTy).Contents (Elt F) → (⟨S_, .f32⟩ : BufTy).Contents (Elt F)),
    nullary main_cst_10 (constant S_ .f32 0x40000000#32),
    unary main_cst_10 main_v60 (Host.log : (⟨S_, .f32⟩ : BufTy).Contents (Elt F) → (⟨S_, .f32⟩ : BufTy).Contents (Elt F)),
    unary main_v47 main_v61 ((truncf .bf16 · bitsLt_bf16_f32) : (⟨S16384x4096, .f32⟩ : BufTy).Contents (Elt F) → (⟨S16384x4096, .bf16⟩ : BufTy).Contents (Elt F)),
    unary main_v59 main_v62 (broadcastInDim S16384x2048 ![] bcast_S_S16384x2048 : (⟨S_, .f32⟩ : BufTy).Contents (Elt F) → (⟨S16384x2048, .f32⟩ : BufTy).Contents (Elt F)),
    binary main_v50 main_v62 main_v63 (Host.divf : (⟨S16384x2048, .f32⟩ : BufTy).Contents (Elt F) → (⟨S16384x2048, .f32⟩ : BufTy).Contents (Elt F) → (⟨S16384x2048, .f32⟩ : BufTy).Contents (Elt F)),
    unary main_v60 main_v64 (broadcastInDim S16384x2048 ![] bcast_S_S16384x2048 : (⟨S_, .f32⟩ : BufTy).Contents (Elt F) → (⟨S16384x2048, .f32⟩ : BufTy).Contents (Elt F)),
    binary main_v63 main_v64 main_v65 (Host.divf : (⟨S16384x2048, .f32⟩ : BufTy).Contents (Elt F) → (⟨S16384x2048, .f32⟩ : BufTy).Contents (Elt F) → (⟨S16384x2048, .f32⟩ : BufTy).Contents (Elt F)),
    nary ![main_v65, main_v51, main_v52] main_v66 (fun u => fn_main_v66 (F := F) (u 0) (u 1) (u 2)),
    unary main_v66 main_v67 ((truncf .bf16 · bitsLt_bf16_f32) : (⟨S16384x6144, .f32⟩ : BufTy).Contents (Elt F) → (⟨S16384x6144, .bf16⟩ : BufTy).Contents (Elt F)),
    unary main_v59 main_v68 (broadcastInDim S16384x2048 ![] bcast_S_S16384x2048 : (⟨S_, .f32⟩ : BufTy).Contents (Elt F) → (⟨S16384x2048, .f32⟩ : BufTy).Contents (Elt F)),
    binary main_v54 main_v68 main_v69 (Host.divf : (⟨S16384x2048, .f32⟩ : BufTy).Contents (Elt F) → (⟨S16384x2048, .f32⟩ : BufTy).Contents (Elt F) → (⟨S16384x2048, .f32⟩ : BufTy).Contents (Elt F)),
    unary main_v60 main_v70 (broadcastInDim S16384x2048 ![] bcast_S_S16384x2048 : (⟨S_, .f32⟩ : BufTy).Contents (Elt F) → (⟨S16384x2048, .f32⟩ : BufTy).Contents (Elt F)),
    binary main_v69 main_v70 main_v71 (Host.divf : (⟨S16384x2048, .f32⟩ : BufTy).Contents (Elt F) → (⟨S16384x2048, .f32⟩ : BufTy).Contents (Elt F) → (⟨S16384x2048, .f32⟩ : BufTy).Contents (Elt F)),
    nary ![main_v71, main_v55, main_v56] main_v72 (fun u => fn_main_v72 (F := F) (u 0) (u 1) (u 2)),
    unary main_v72 main_v73 ((truncf .bf16 · bitsLt_bf16_f32) : (⟨S16384x6144, .f32⟩ : BufTy).Contents (Elt F) → (⟨S16384x6144, .bf16⟩ : BufTy).Contents (Elt F)),
    unary main_v57 main_v74 (Host.negf : (⟨S16384x4096, .f32⟩ : BufTy).Contents (Elt F) → (⟨S16384x4096, .f32⟩ : BufTy).Contents (Elt F)),
    unary main_v74 main_v75 (Host.exp : (⟨S16384x4096, .f32⟩ : BufTy).Contents (Elt F) → (⟨S16384x4096, .f32⟩ : BufTy).Contents (Elt F)),
    nullary main_cst_11 (constant S_ .f32 0x3F800000#32),
    unary main_cst_11 main_v76 (broadcastInDim S16384x4096 ![] bcast_S_S16384x4096 : (⟨S_, .f32⟩ : BufTy).Contents (Elt F) → (⟨S16384x4096, .f32⟩ : BufTy).Contents (Elt F)),
    binary main_v76 main_v75 main_v77 (addf : (⟨S16384x4096, .f32⟩ : BufTy).Contents (Elt F) → (⟨S16384x4096, .f32⟩ : BufTy).Contents (Elt F) → (⟨S16384x4096, .f32⟩ : BufTy).Contents (Elt F)),
    nullary main_cst_12 (constant S_ .f32 0x3F800000#32),
    unary main_cst_12 main_v78 (broadcastInDim S16384x4096 ![] bcast_S_S16384x4096 : (⟨S_, .f32⟩ : BufTy).Contents (Elt F) → (⟨S16384x4096, .f32⟩ : BufTy).Contents (Elt F)),
    binary main_v78 main_v77 main_v79 (Host.divf : (⟨S16384x4096, .f32⟩ : BufTy).Contents (Elt F) → (⟨S16384x4096, .f32⟩ : BufTy).Contents (Elt F) → (⟨S16384x4096, .f32⟩ : BufTy).Contents (Elt F)),
    unary main_v58 main_v80 (Host.negf : (⟨S16384x4096, .f32⟩ : BufTy).Contents (Elt F) → (⟨S16384x4096, .f32⟩ : BufTy).Contents (Elt F)),
    unary main_v80 main_v81 (Host.exp : (⟨S16384x4096, .f32⟩ : BufTy).Contents (Elt F) → (⟨S16384x4096, .f32⟩ : BufTy).Contents (Elt F)),
    nullary main_cst_13 (constant S_ .f32 0x3F800000#32),
    unary main_cst_13 main_v82 (broadcastInDim S16384x4096 ![] bcast_S_S16384x4096 : (⟨S_, .f32⟩ : BufTy).Contents (Elt F) → (⟨S16384x4096, .f32⟩ : BufTy).Contents (Elt F)),
    binary main_v82 main_v81 main_v83 (addf : (⟨S16384x4096, .f32⟩ : BufTy).Contents (Elt F) → (⟨S16384x4096, .f32⟩ : BufTy).Contents (Elt F) → (⟨S16384x4096, .f32⟩ : BufTy).Contents (Elt F)),
    nullary main_cst_14 (constant S_ .f32 0x3F800000#32),
    unary main_cst_14 main_v84 (broadcastInDim S16384x4096 ![] bcast_S_S16384x4096 : (⟨S_, .f32⟩ : BufTy).Contents (Elt F) → (⟨S16384x4096, .f32⟩ : BufTy).Contents (Elt F)),
    binary main_v84 main_v83 main_v85 (Host.divf : (⟨S16384x4096, .f32⟩ : BufTy).Contents (Elt F) → (⟨S16384x4096, .f32⟩ : BufTy).Contents (Elt F) → (⟨S16384x4096, .f32⟩ : BufTy).Contents (Elt F)),
    binary main_v79 main_v85 main_v86 (fn_main_v86 (F := F)),
    unary main_v86 main_v87 ((truncf .bf16 · bitsLt_bf16_f32) : (⟨S16384x8192, .f32⟩ : BufTy).Contents (Elt F) → (⟨S16384x8192, .bf16⟩ : BufTy).Contents (Elt F)),
    reshape main_arg8 main_v88 (rfl : (.f32 : EltTy) = .f32) shapeCasts_S1x2048x4096_S2048x4096,
    unary main_v88 main_v89 ((truncf .bf16 · bitsLt_bf16_f32) : (⟨S2048x4096, .f32⟩ : BufTy).Contents (Elt F) → (⟨S2048x4096, .bf16⟩ : BufTy).Contents (Elt F)),
    reshape main_arg9 main_v90 (rfl : (.f32 : EltTy) = .f32) shapeCasts_S1x2048x4096_S2048x4096,
    unary main_v90 main_v91 ((truncf .bf16 · bitsLt_bf16_f32) : (⟨S2048x4096, .f32⟩ : BufTy).Contents (Elt F) → (⟨S2048x4096, .bf16⟩ : BufTy).Contents (Elt F)),
    reshape main_arg10 main_v92 (rfl : (.f32 : EltTy) = .f32) shapeCasts_S1x4096x4096_S4096x4096,
    unary main_v92 main_v93 ((truncf .bf16 · bitsLt_bf16_f32) : (⟨S4096x4096, .f32⟩ : BufTy).Contents (Elt F) → (⟨S4096x4096, .bf16⟩ : BufTy).Contents (Elt F)) ]

theorem opsParts_sub : (opsParts (F := F)).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., nullary_bufs_sub .., unary_bufs_sub .., nullary_bufs_sub .., unary_bufs_sub .., unary_bufs_sub .., unary_bufs_sub .., binary_bufs_sub .., unary_bufs_sub .., binary_bufs_sub .., nary_bufs_sub .., unary_bufs_sub .., unary_bufs_sub .., binary_bufs_sub .., unary_bufs_sub .., binary_bufs_sub .., nary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., reshape_bufs_sub .., unary_bufs_sub .., reshape_bufs_sub .., unary_bufs_sub ..⟩

theorem opsParts_keeps (V : Valuation τ sig (Elt F)) {r : Ref sig .tc} (h : r ∉ ([main_v50, main_v51, main_v52, main_v53, main_v54, main_v55, main_v56, main_v57, main_v58, main_cst_9, main_v59, main_cst_10, main_v60, main_v61, main_v62, main_v63, main_v64, main_v65, main_v66, main_v67, main_v68, main_v69, main_v70, main_v71, main_v72, main_v73, main_v74, main_v75, main_cst_11, main_v76, main_v77, main_cst_12, main_v78, main_v79, main_v80, main_v81, main_cst_13, main_v82, main_v83, main_cst_14, main_v84, main_v85, main_v86, main_v87, main_v88, main_v89, main_v90, main_v91, main_v92, main_v93] : List (Ref sig .tc))) :
    after opsParts V (no_index (Proc.devRef .tc r)) = V (Proc.devRef .tc r) :=
  after_unwritten _ rfl h V

/-- All the operations, in order. -/
abbrev line : List (HloOp τ sig (Elt F)) := opsPre ++ (opsHid ++ (opsDown ++ (opsRes ++ (opsNorm ++ (opsIn ++ (opsParts))))))

set_option maxHeartbeats 4000000 in
theorem main_line (c : Dev nD) : main (F := F) c = seq line := rfl

theorem line_sub : (line (F := F)).Forall fun op => op.bufs ⊆ tcRefs τ sig :=
  List.forall_append.mpr ⟨opsPre_sub, List.forall_append.mpr ⟨opsHid_sub, List.forall_append.mpr ⟨opsDown_sub, List.forall_append.mpr ⟨opsRes_sub, List.forall_append.mpr ⟨opsNorm_sub, List.forall_append.mpr ⟨opsIn_sub, opsParts_sub⟩⟩⟩⟩⟩⟩

theorem no_scoped_refs : (Finset.univ.filter fun b : Ref sig .tc => b.isScoped) = ∅ := by decide

theorem no_scoped_sems : (Finset.univ.filter fun sm : SemLoc sig => sm.isScoped .tc) = ∅ := by decide

/-- Every run ends with each buffer at what the operations leave in it. -/
theorem run (m : (ℓ : Loc nD τ sig) → Buf (Elt F) ℓ) (ρ : Dev nD → PrngReg) :
    θ_run defs (onTc (τ := τ) main) ⟨m, fun _ => 0, ρ⟩ fun r => ∀ (d : Dev nD) (b : Ref sig .tc),
      r.2.mem ((d.tc : Thread nD τ).loc b) = after line (launchContents m d) (Proc.devRef .tc b) :=
  run_seq no_scoped_refs no_scoped_sems defs main (fun _ => line) main_line (fun _ => line_sub) m ρ

end

variable (V : Valuation τ sig (Elt Ideal))

/-- The tokens as rows. -/
abbrev X : Mat 16384 4096 := shapeCast S16384x4096 (V (Proc.devRef .tc main_arg0)) shapeCasts_S4x4096x4096_S16384x4096

theorem pre_x : after opsPre V (no_index (Proc.devRef .tc main_v0)) = X V := by
  after_results
  rfl

theorem pre_val : after opsPre V (no_index (Proc.devRef .tc main_v12)) = (rms (X V) (V (Proc.devRef .tc main_arg1)) : Mat 16384 4096) := by
  after_results
  funext j
  idx_vars j
  pointwise [rms]

theorem hid_val : after opsHid V (no_index (Proc.devRef .tc main_v19))
    = (hid (V (Proc.devRef .tc main_v12)) (shapeCast S4096x11008 (V (Proc.devRef .tc main_arg2)) shapeCasts_S1x4096x11008_S4096x11008)
        (shapeCast S4096x11008 (V (Proc.devRef .tc main_arg3)) shapeCasts_S1x4096x11008_S4096x11008) : Mat 16384 11008) := by
  simp only [opsHid, TRef.binary, TRef.nullary, TRef.unary, TRef.toBuf, TRef.ofBuf, cast_eq]
  after_results
  funext j
  idx_vars j
  pointwise [hid, mm, sg_eq]

theorem hid_w : after opsHid V (no_index (Proc.devRef .tc main_v15))
    = shapeCast S11008x4096 (V (Proc.devRef .tc main_arg4)) shapeCasts_S1x11008x4096_S11008x4096 := by
  simp only [opsHid, TRef.binary, TRef.nullary, TRef.unary, TRef.toBuf, TRef.ofBuf, cast_eq]
  after_results
  rfl

theorem down_val : after opsDown V (no_index (Proc.devRef .tc main_v20)) = (mm (V (Proc.devRef .tc main_v19)) (V (Proc.devRef .tc main_v15)) : Mat 16384 4096) := by
  after_results
  funext j
  idx_vars j
  pointwise [mm]

theorem res_val : after opsRes V (no_index (Proc.devRef .tc main_v35))
    = (resHalf (V (Proc.devRef .tc main_v0)) (V (Proc.devRef .tc main_v20)) (V (Proc.devRef .tc main_arg5)) : Mat 16384 4096) := by
  after_results
  funext j
  idx_vars j
  pointwise [resHalf, rms]

theorem norm_val : after opsNorm V (no_index (Proc.devRef .tc main_v47))
    = (rms (V (Proc.devRef .tc main_v35)) (V (Proc.devRef .tc main_arg6)) : Mat 16384 4096) := by
  after_results
  funext j
  idx_vars j
  pointwise [rms]

theorem in_val : after opsIn V (no_index (Proc.devRef .tc main_v49))
    = (mm (V (Proc.devRef .tc main_v47)) (shapeCast S4096x20496 (V (Proc.devRef .tc main_arg7)) shapeCasts_S1x4096x20496_S4096x20496) : Mat 16384 20496) := by
  after_results
  funext j
  idx_vars j
  pointwise [mm]

theorem parts_u : after opsParts V (no_index (Proc.devRef .tc main_v61)) = V (Proc.devRef .tc main_v47) := by
  after_results
  rfl

/-- Two arrays side by side, at a column of the first or of the second. -/
theorem cat3_0 (a b c : Mat 16384 2048) (h) (j0 : Fin 16384) (j1 : Fin 6144) (hj : j1.val < 2048) :
    concatenate S16384x6144 1 [⟨S16384x2048, a⟩, ⟨S16384x2048, b⟩, ⟨S16384x2048, c⟩] h (ix2 j0 j1) = a (ix2 j0 (⟨j1.val, hj⟩ : Fin 2048)) := by
  refine concatenate_apply_piece 1 _ h _ 0 (by simp) S16384x2048 a rfl rfl 0 rfl _ (fun b hb => ?_) (Nat.zero_add _)
  fin_cases b
  · rfl
  · exact absurd rfl hb

theorem cat3_1 (a b c : Mat 16384 2048) (h) (j0 : Fin 16384) (j1 : Fin 6144) (hj : 2048 ≤ j1.val) (hj' : j1.val < 4096) :
    concatenate S16384x6144 1 [⟨S16384x2048, a⟩, ⟨S16384x2048, b⟩, ⟨S16384x2048, c⟩] h (ix2 j0 j1) = b (ix2 j0 (⟨j1.val - 2048, by omega⟩ : Fin 2048)) := by
  refine concatenate_apply_piece 1 _ h _ 1 (by simp) S16384x2048 b rfl rfl 2048 rfl _ (fun b hb => ?_) (Nat.add_sub_cancel' hj)
  fin_cases b
  · rfl
  · exact absurd rfl hb

theorem cat3_2 (a b c : Mat 16384 2048) (h) (j0 : Fin 16384) (j1 : Fin 6144) (hj : 4096 ≤ j1.val) :
    concatenate S16384x6144 1 [⟨S16384x2048, a⟩, ⟨S16384x2048, b⟩, ⟨S16384x2048, c⟩] h (ix2 j0 j1) = c (ix2 j0 (⟨j1.val - 4096, by omega⟩ : Fin 2048)) := by
  refine concatenate_apply_piece 1 _ h _ 2 (by simp) S16384x2048 c rfl rfl 4096 rfl _ (fun b hb => ?_) (Nat.add_sub_cancel' hj)
  fin_cases b
  · rfl
  · exact absurd rfl hb

/-- The product's columns for one attention: the scaled queries beside the keys and the values. -/
theorem cat3_part (r : ℕ) (hr : r + 6144 ≤ 20496) (p : Mat 16384 20496) (a b c : Mat 16384 2048) (h)
    (ha : ∀ j0 (j1 : Fin 2048), a (ix2 j0 j1) = p (ix2 j0 ⟨r + j1.val, by omega⟩) * scale)
    (hb : ∀ j0 (j1 : Fin 2048), b (ix2 j0 j1) = p (ix2 j0 ⟨r + 2048 + j1.val, by omega⟩))
    (hc : ∀ j0 (j1 : Fin 2048), c (ix2 j0 j1) = p (ix2 j0 ⟨r + 4096 + j1.val, by omega⟩)) :
    concatenate S16384x6144 1 [⟨S16384x2048, a⟩, ⟨S16384x2048, b⟩, ⟨S16384x2048, c⟩] h = (part r hr scale p : Mat 16384 6144) := by
  funext j
  obtain ⟨j0, j1, rfl⟩ : ∃ j0 j1, j = ix2 j0 j1 := ⟨j 0, j 1, by funext a; fin_cases a <;> rfl⟩
  show _ = p (ix2 j0 _) * (if j1.val < 2048 then scale else 1)
  by_cases h0 : j1.val < 2048
  · rw [if_pos h0, cat3_0 a b c h j0 j1 h0, ha]
    rfl
  · rw [if_neg h0, mul_one]
    by_cases h1 : j1.val < 4096
    · rw [cat3_1 a b c h j0 j1 (by omega) h1, hb]
      refine congrArg (fun k => p (ix2 j0 k)) (Fin.ext ?_)
      show r + 2048 + (j1.val - 2048) = r + j1.val
      omega
    · rw [cat3_2 a b c h j0 j1 (by omega), hc]
      refine congrArg (fun k => p (ix2 j0 k)) (Fin.ext ?_)
      show r + 4096 + (j1.val - 4096) = r + j1.val
      omega

theorem cat2_gated (p : Mat 16384 20496) (a b : Mat 16384 4096) (h)
    (ha : ∀ j0 (j1 : Fin 4096), a (ix2 j0 j1) = sg (p (ix2 j0 ⟨12304 + j1.val, by omega⟩)))
    (hb : ∀ j0 (j1 : Fin 4096), b (ix2 j0 j1) = sg (p (ix2 j0 ⟨16400 + j1.val, by omega⟩))) :
    concatenate S16384x8192 1 [⟨S16384x4096, a⟩, ⟨S16384x4096, b⟩] h = (gated 12304 (by norm_num) p : Mat 16384 8192) := by
  funext j
  obtain ⟨j0, j1, rfl⟩ : ∃ j0 j1, j = ix2 j0 j1 := ⟨j 0, j 1, by funext a; fin_cases a <;> rfl⟩
  show _ = sg (p (ix2 j0 _))
  by_cases h0 : j1.val < 4096
  · refine (concatenate_pair_apply_left 1 a b h _ rfl (ix2 j0 (⟨j1.val, h0⟩ : Fin 4096)) (fun b => ?_)).trans (ha _ _)
    fin_cases b <;> rfl
  · have hl : j1.val - 4096 < 4096 := by have := j1.isLt; simp at this; omega
    refine (concatenate_pair_apply_right 1 a b h _ rfl rfl (ix2 j0 (⟨j1.val - 4096, hl⟩ : Fin 4096)) (fun b hb => ?_) ?_).trans ((hb _ _).trans ?_)
    · fin_cases b
      · rfl
      · exact absurd rfl hb
    · exact Nat.sub_add_cancel (by omega)
    · refine congrArg (fun k => sg (p (ix2 j0 k))) (Fin.ext ?_)
      show 16400 + (j1.val - 4096) = 12304 + j1.val
      omega

theorem parts_fox : after opsParts V (no_index (Proc.devRef .tc main_v67)) = (part 0 (by norm_num) scale (V (Proc.devRef .tc main_v49) : Mat 16384 20496) : Mat 16384 6144) := by
  after_results_simp
  dsimp only [Matrix.cons_val]
  after_results_simp
  refine cat3_part 0 _ _ _ _ _ concatenates_S16384x2048_S16384x2048_S16384x2048_S16384x6144_d1 (fun j0 j1 => ?_) (fun j0 j1 => ?_) (fun j0 j1 => ?_)
  · rw [← div_div_eq]
    pointwise []
  · pointwise []
  · pointwise []

theorem parts_diff : after opsParts V (no_index (Proc.devRef .tc main_v73)) = (part 6160 (by norm_num) scale (V (Proc.devRef .tc main_v49) : Mat 16384 20496) : Mat 16384 6144) := by
  after_results_simp
  dsimp only [Matrix.cons_val]
  after_results_simp
  refine cat3_part 6160 _ _ _ _ _ concatenates_S16384x2048_S16384x2048_S16384x2048_S16384x6144_d1 (fun j0 j1 => ?_) (fun j0 j1 => ?_) (fun j0 j1 => ?_)
  · rw [← div_div_eq]
    pointwise []
  · pointwise []
  · pointwise []

theorem parts_gates : after opsParts V (no_index (Proc.devRef .tc main_v87)) = (gated 12304 (by norm_num) (V (Proc.devRef .tc main_v49) : Mat 16384 20496) : Mat 16384 8192) := by
  after_results
  refine cat2_gated _ _ _ concatenates_S16384x4096_S16384x4096_S16384x8192_d1 (fun j0 j1 => ?_) (fun j0 j1 => ?_)
  · rw [sg_eq]
    pointwise []
  · rw [sg_eq]
    pointwise []

theorem parts_wof : after opsParts V (no_index (Proc.devRef .tc main_v89)) = shapeCast S2048x4096 (V (Proc.devRef .tc main_arg8)) shapeCasts_S1x2048x4096_S2048x4096 := by
  after_results
  rfl

theorem parts_wod : after opsParts V (no_index (Proc.devRef .tc main_v91)) = shapeCast S2048x4096 (V (Proc.devRef .tc main_arg9)) shapeCasts_S1x2048x4096_S2048x4096 := by
  after_results
  rfl

theorem parts_wout : after opsParts V (no_index (Proc.devRef .tc main_v93)) = shapeCast S4096x4096 (V (Proc.devRef .tc main_arg10)) shapeCasts_S1x4096x4096_S4096x4096 := by
  after_results
  rfl

/-- The residual stream, the mixer's input and its product with the input weight, from the arguments. -/
def H : Mat 16384 4096 := resHalf (X V)
  (mm (hid (rms (X V) (V (Proc.devRef .tc main_arg1))) (shapeCast S4096x11008 (V (Proc.devRef .tc main_arg2)) shapeCasts_S1x4096x11008_S4096x11008)
      (shapeCast S4096x11008 (V (Proc.devRef .tc main_arg3)) shapeCasts_S1x4096x11008_S4096x11008))
    (shapeCast S11008x4096 (V (Proc.devRef .tc main_arg4)) shapeCasts_S1x11008x4096_S11008x4096)) (V (Proc.devRef .tc main_arg5))
def U : Mat 16384 4096 := rms (H V) (V (Proc.devRef .tc main_arg6))
def P : Mat 16384 20496 := mm (U V) (shapeCast S4096x20496 (V (Proc.devRef .tc main_arg7)) shapeCasts_S1x4096x20496_S4096x20496)

theorem line_split (r : Ref sig .tc) : after line V (Proc.devRef .tc r)
    = after opsParts (after opsIn (after opsNorm (after opsRes (after opsDown (after opsHid (after opsPre V)))))) (Proc.devRef .tc r) := by
  rw [line, after_append, after_append, after_append, after_append, after_append, after_append]

theorem line_h : after line V (Proc.devRef .tc main_v35) = H V := by
  rw [line_split]
  simp (disch := decide) only [in_val, norm_val, res_val, down_val, hid_val, hid_w, pre_val, pre_x,
    opsParts_keeps, opsIn_keeps, opsNorm_keeps, opsRes_keeps, opsDown_keeps, opsHid_keeps, opsPre_keeps]
  rfl

theorem line_u : after line V (Proc.devRef .tc main_v61) = U V := by
  rw [line_split]
  simp (disch := decide) only [parts_u, in_val, norm_val, res_val, down_val, hid_val, hid_w, pre_val, pre_x,
    opsParts_keeps, opsIn_keeps, opsNorm_keeps, opsRes_keeps, opsDown_keeps, opsHid_keeps, opsPre_keeps]
  rfl

theorem line_fox : after line V (Proc.devRef .tc main_v67) = (part 0 (by norm_num) scale (P V) : Mat 16384 6144) := by
  rw [line_split]
  simp (disch := decide) only [parts_fox, in_val, norm_val, res_val, down_val, hid_val, hid_w, pre_val, pre_x,
    opsParts_keeps, opsIn_keeps, opsNorm_keeps, opsRes_keeps, opsDown_keeps, opsHid_keeps, opsPre_keeps]
  rfl

theorem line_diff : after line V (Proc.devRef .tc main_v73) = (part 6160 (by norm_num) scale (P V) : Mat 16384 6144) := by
  rw [line_split]
  simp (disch := decide) only [parts_diff, in_val, norm_val, res_val, down_val, hid_val, hid_w, pre_val, pre_x,
    opsParts_keeps, opsIn_keeps, opsNorm_keeps, opsRes_keeps, opsDown_keeps, opsHid_keeps, opsPre_keeps]
  rfl

theorem line_gates : after line V (Proc.devRef .tc main_v87) = (gated 12304 (by norm_num) (P V) : Mat 16384 8192) := by
  rw [line_split]
  simp (disch := decide) only [parts_gates, in_val, norm_val, res_val, down_val, hid_val, hid_w, pre_val, pre_x,
    opsParts_keeps, opsIn_keeps, opsNorm_keeps, opsRes_keeps, opsDown_keeps, opsHid_keeps, opsPre_keeps]
  rfl

theorem line_w :
    after line V (Proc.devRef .tc main_v89) = shapeCast S2048x4096 (V (Proc.devRef .tc main_arg8)) shapeCasts_S1x2048x4096_S2048x4096
    ∧ after line V (Proc.devRef .tc main_v91) = shapeCast S2048x4096 (V (Proc.devRef .tc main_arg9)) shapeCasts_S1x2048x4096_S2048x4096
    ∧ after line V (Proc.devRef .tc main_v93) = shapeCast S4096x4096 (V (Proc.devRef .tc main_arg10)) shapeCasts_S1x4096x4096_S4096x4096 := by
  refine ⟨?_, ?_, ?_⟩ <;> rw [line_split] <;>
    simp (disch := decide) only [parts_wof, parts_wod, parts_wout,
      opsIn_keeps, opsNorm_keeps, opsRes_keeps, opsDown_keeps, opsHid_keeps, opsPre_keeps]

theorem line_arg {r : Ref sig .tc}
    (h : r ∈ ([main_arg0, main_arg1, main_arg2, main_arg3, main_arg4, main_arg5, main_arg6, main_arg7, main_arg8, main_arg9, main_arg10] : List (Ref sig .tc))) :
    after line V (Proc.devRef .tc r) = V (Proc.devRef .tc r) := by
  rw [line_split]
  fin_cases h <;>
    simp (disch := decide) only [opsParts_keeps, opsIn_keeps, opsNorm_keeps, opsRes_keeps, opsDown_keeps, opsHid_keeps, opsPre_keeps]

end Cert.ReferenceIdeal.Line

end
-- ==== Proof.Val2.lean ====
module

public import proofs.«01_k».proof.Proof.Gen.Kernel2Ideal.Frame
public import proofs.«01_k».proof.Proof.Spec
public import Idealize.ShloMosaic.Lib.Claim

@[expose] public section

set_option maxRecDepth 16384

noncomputable section

namespace Cert.Kernel2Ideal.Val
open Idealize.ShloMosaic Idealize.ShloMosaic.TcCoe Idealize.ShloMosaic.Tactic Cert.Kernel2Ideal Cert.Kernel2Ideal.Gen Cert.Spec
open Idealize.ShloMosaic.Pipeline (Dat Cfg Window)

variable (V : (c : Dev nD) → (b : Ref sig .tc) → Buf (Elt Ideal) ((c : Thread nD τ).loc b))

/-! ## The merge of the two attention outputs -/

theorem idx0 : ∀ t : Fin cfg0.N,
    win0_0.index t = ![t.val / 8, 0] ∧ win0_1.index t = ![t.val / 8, 0] ∧ win0_2.index t = ![0, t.val % 8] ∧ win0_3.index t = ![0, t.val % 8]
      ∧ win0_4.index t = ![t.val / 8, t.val % 8] ∧ win0_5.index t = ![t.val / 8, t.val % 8 + 8] ∧ win0_6.index t = ![t.val / 8, t.val % 8] :=
  (by decide +kernel : ∀ t : Fin grid0.N, _)

theorem final0 (c : Dev nD) : (dat0 V c).arrAt 6 cfg0.N
    = (merge (V c main_arg0) (V c main_arg1) (V c main_arg2) (V c main_arg4) (V c main_arg5) : Mat 16384 4096) := by
  refine (dat0 V c).arrAt_eq_of_covers 6 _ (by decide +kernel) fun t _ y => ?_
  blk_simp
  rw [after0_6]
  frame_out
  pointwise [k0_pay1, merge, mm]
  blk_point [iblk0, idx0 t]

/-! ## The output projection -/

theorem idx1 : ∀ t : Fin cfg1.N,
    win1_0.index t = ![t.val / 4, 0] ∧ win1_1.index t = ![0, t.val % 4] ∧ win1_2.index t = ![t.val / 4, t.val % 4] :=
  (by decide +kernel : ∀ t : Fin grid1.N, _)

theorem final1 (c : Dev nD) : (dat1 V c).arrAt 2 cfg1.N = (mm (V c main_v0) (V c main_arg6) : Mat 16384 4096) := by
  refine (dat1 V c).arrAt_eq_of_covers 2 _ (by decide +kernel) fun t _ y => ?_
  blk_simp
  rw [after1_2]
  frame_out
  pointwise [k1_pay1, mm]
  blk_point [iblk1, idx1 t]

/-! ## The residual connection and the second norm -/

theorem idx2 : ∀ t : Fin cfg2.N,
    win2_0.index t = ![t.val, 0] ∧ win2_1.index t = ![t.val, 0] ∧ win2_2.index t = ![0, 0] ∧ win2_3.index t = ![0, 0]
      ∧ win2_4.index t = ![t.val, 0] ∧ win2_5.index t = ![t.val, 0] :=
  (by decide +kernel : ∀ t : Fin grid2.N, _)

theorem final2_4 (c : Dev nD) : (dat2 V c).arrAt 4 cfg2.N = (res (V c main_arg3) (V c main_v1) (V c main_v7) : Mat 16384 4096) := by
  refine (dat2 V c).arrAt_eq_of_covers 4 _ (by decide +kernel) fun t _ y => ?_
  blk_simp
  rw [after2_4]
  frame_out
  pointwise [k2_pay1, res, rms]
  blk_point [iblk2, idx2 t]

theorem final2_5 (c : Dev nD) : (dat2 V c).arrAt 5 cfg2.N
    = (rms (res (V c main_arg3) (V c main_v1) (V c main_v7)) (V c main_v3) : Mat 16384 4096) := by
  refine (dat2 V c).arrAt_eq_of_covers 5 _ (by decide +kernel) fun t _ y => ?_
  blk_simp
  rw [after2_5]
  frame_out
  pointwise [k2_pay1, k2_pay2, res, rms]
  blk_point [iblk2, idx2 t]

/-! ## The gated hidden layer, and the cast of the down projection's weight that rides in it -/

theorem idx3 : ∀ t : Fin cfg3.N,
    win3_0.index t = ![t.val / 43, 0] ∧ win3_1.index t = ![0, t.val % 43] ∧ win3_2.index t = ![0, t.val % 43]
      ∧ win3_3.index t = ![t.val, 0] ∧ win3_4.index t = ![t.val / 43, t.val % 43] ∧ win3_5.index t = ![t.val, 0] :=
  (by decide +kernel : ∀ t : Fin grid3.N, _)

theorem final3_4 (c : Dev nD) : (dat3 V c).arrAt 4 cfg3.N = (hid (V c main_v8_1) (V c main_v9) (V c main_v10) : Mat 16384 11008) := by
  refine (dat3 V c).arrAt_eq_of_covers 4 _ (by decide +kernel) fun t _ y => ?_
  blk_simp
  rw [after3_4]
  frame_out
  pointwise [k3_pay2, hid, mm, sg]
  blk_point [iblk3, idx3 t]

theorem final3_5 (c : Dev nD) : (dat3 V c).arrAt 5 cfg3.N = (V c main_v11 : Mat 11008 4096) := by
  refine (dat3 V c).arrAt_eq_of_covers 5 _ (by decide +kernel) fun t _ y => ?_
  blk_simp
  rw [after3_5]
  frame_out
  pointwise [k3_pay1]
  blk_point [iblk3, idx3 t]

/-! ## The down projection -/

theorem idx4 : ∀ t : Fin cfg4.N,
    win4_0.index t = ![t.val / 8, 0] ∧ win4_1.index t = ![0, t.val % 8] ∧ win4_2.index t = ![t.val / 8, t.val % 8] :=
  (by decide +kernel : ∀ t : Fin grid4.N, _)

theorem final4 (c : Dev nD) : (dat4 V c).arrAt 2 cfg4.N = (mm (V c main_v12_0) (V c main_v12_1) : Mat 16384 4096) := by
  refine (dat4 V c).arrAt_eq_of_covers 2 _ (by decide +kernel) fun t _ y => ?_
  blk_simp
  rw [after4_2]
  frame_out
  pointwise [k4_pay1, mm]
  blk_point [iblk4, idx4 t]

/-! ## The last residual connection -/

theorem idx5 : ∀ t : Fin cfg5.N,
    win5_0.index t = ![t.val, 0] ∧ win5_1.index t = ![t.val, 0] ∧ win5_2.index t = ![0, 0] ∧ win5_3.index t = ![t.val, 0] :=
  (by decide +kernel : ∀ t : Fin grid5.N, _)

theorem final5 (c : Dev nD) : (dat5 V c).arrAt 3 cfg5.N = (resHalf (V c main_v8_0) (V c main_v13) (V c main_v5) : Mat 16384 4096) := by
  refine (dat5 V c).arrAt_eq_of_covers 3 _ (by decide +kernel) fun t _ y => ?_
  blk_simp
  rw [after5_3]
  frame_out
  pointwise [k5_pay1, resHalf, rms]
  blk_point [iblk5, idx5 t]

end Cert.Kernel2Ideal.Val

end
-- ==== Proof.Run2.lean ====
/- Every run of the program ends with each unscoped buffer at the last boundary's contents: the launch over the
   generated segments, with the whole of the last thread state kept. -/
module

public import proofs.«01_k».proof.Proof.Gen.Kernel2Ideal.Frame

@[expose] public section

set_option maxRecDepth 16384

noncomputable section

namespace Cert.Kernel2Ideal.Val
open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Where every run leaves the unscoped buffers. -/
theorem run_ends : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

/-- The same at a TensorCore reference. -/
theorem run_at : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W8 m ρ c (Proc.devRef .tc b)) :=
  (θ_run defs _ _).mono (fun _ h c b hb => h c _ (mem_uc b hb)) (run_ends m ρ)

end Cert.Kernel2Ideal.Val

end
-- ==== Proof.Sem2.lean ====
/- The contents of the result when the calls after the attention have run, as one formula of the arguments. -/
module

public import proofs.«01_k».proof.Proof.Val2
public import proofs.«01_k».proof.Proof.Run2
public import proofs.«01_k».proof.Proof.Spec
public import Idealize.ShloMosaic.Lib.Claim

@[expose] public section

set_option maxRecDepth 16384

noncomputable section

namespace Cert.Kernel2Ideal.Val
open Idealize.ShloMosaic Idealize.ShloMosaic.TcCoe Idealize.ShloMosaic.Tactic Cert.Kernel2Ideal Cert.Kernel2Ideal.Gen Cert.Spec
open Idealize.ShloMosaic.Pipeline (Dat Cfg Window)

variable (m : (ℓ : Loc nD τ sig) → Buf (Elt Ideal) ℓ) (ρ : Dev nD → PrngReg) (c : Dev nD)

/-- An argument as launched. -/
abbrev A (r : Ref sig .tc) := m ((c : Thread nD τ).loc r)

/-- The mixer's output, its residual connection, and the layer's result. -/
def mix : Mat 16384 4096 := mm (merge (A m c main_arg0) (A m c main_arg1) (A m c main_arg2) (A m c main_arg4) (A m c main_arg5)) (A m c main_arg6)
def h : Mat 16384 4096 := res (A m c main_arg3) (mix m c) (A m c main_arg7)
def hidden : Mat 16384 11008 :=
  hid (rms (h m c) (A m c main_arg8)) (shapeCast S4096x11008 (A m c main_arg9) shapeCasts_S1x4096x11008_S4096x11008)
    (shapeCast S4096x11008 (A m c main_arg10) shapeCasts_S1x4096x11008_S4096x11008)
def out : Mat 16384 4096 :=
  resHalf (h m c) (mm (hidden m c) (shapeCast S11008x4096 (A m c main_arg11) shapeCasts_S1x11008x4096_S11008x4096)) (A m c main_arg12)

theorem w1 : W1 m ρ c (Proc.devRef .tc main_v0) = merge (A m c main_arg0) (A m c main_arg1) (A m c main_arg2) (A m c main_arg4) (A m c main_arg5) :=
  (W1_arr m ρ c 6).trans (final0 (V0 m ρ) c)

theorem w2 : W2 m ρ c (Proc.devRef .tc main_v1) = mix m c := by
  refine (W2_arr m ρ c 2).trans ((final1 (V1 m ρ) c).trans ?_)
  show mm (W1 m ρ c (Proc.devRef .tc main_v0)) (W1 m ρ c (Proc.devRef .tc main_arg6)) = _
  rw [w1, W1_args m ρ c main_arg6 (by decide)]
  rfl

theorem w3_1 : W3 m ρ c (Proc.devRef .tc main_v1) = mix m c := (W3_of m ρ c main_v1 (by decide)).trans (w2 m ρ c)

theorem w3_3 : W3 m ρ c (Proc.devRef .tc main_v3) = A m c main_arg8 := by
  show StableHlo.after hostOps2 (W2 m ρ c) _ = _
  after_results
  rw [W2_args m ρ c main_arg8 (by decide)]
  funext j
  idx_vars j
  pointwise [A]
  rw [Subsingleton.elim j0 0]

theorem w3_5 : W3 m ρ c (Proc.devRef .tc main_v5) = A m c main_arg12 := by
  show StableHlo.after hostOps2 (W2 m ρ c) _ = _
  after_results
  rw [W2_args m ρ c main_arg12 (by decide)]
  funext j
  idx_vars j
  pointwise [A]
  rw [Subsingleton.elim j0 0]

theorem w3_7 : W3 m ρ c (Proc.devRef .tc main_v7) = A m c main_arg7 := by
  show StableHlo.after hostOps2 (W2 m ρ c) _ = _
  after_results
  rw [W2_args m ρ c main_arg7 (by decide)]
  funext j
  idx_vars j
  pointwise [A]
  rw [Subsingleton.elim j0 0]

theorem w4_h : W4 m ρ c (Proc.devRef .tc main_v8_0) = h m c := by
  refine (W4_arr m ρ c 4).trans ((final2_4 (V3 m ρ) c).trans ?_)
  show res (W3 m ρ c (Proc.devRef .tc main_arg3)) (W3 m ρ c (Proc.devRef .tc main_v1)) (W3 m ρ c (Proc.devRef .tc main_v7)) = _
  rw [W3_args m ρ c main_arg3 (by decide), w3_1, w3_7]
  rfl

theorem w4_x : W4 m ρ c (Proc.devRef .tc main_v8_1) = rms (h m c) (A m c main_arg8) := by
  refine (W4_arr m ρ c 5).trans ((final2_5 (V3 m ρ) c).trans ?_)
  show rms (res (W3 m ρ c (Proc.devRef .tc main_arg3)) (W3 m ρ c (Proc.devRef .tc main_v1)) (W3 m ρ c (Proc.devRef .tc main_v7))) (W3 m ρ c (Proc.devRef .tc main_v3)) = _
  rw [W3_args m ρ c main_arg3 (by decide), w3_1, w3_7, w3_3]
  rfl

theorem w5_w : W5 m ρ c (Proc.devRef .tc main_v9) = shapeCast S4096x11008 (A m c main_arg9) shapeCasts_S1x4096x11008_S4096x11008
    ∧ W5 m ρ c (Proc.devRef .tc main_v10) = shapeCast S4096x11008 (A m c main_arg10) shapeCasts_S1x4096x11008_S4096x11008
    ∧ W5 m ρ c (Proc.devRef .tc main_v11) = shapeCast S11008x4096 (A m c main_arg11) shapeCasts_S1x11008x4096_S11008x4096 := by
  refine ⟨?_, ?_, ?_⟩
  · show StableHlo.after hostOps3 (W4 m ρ c) _ = _
    after_results
    rw [W4_args m ρ c main_arg9 (by decide)]
    rfl
  · show StableHlo.after hostOps3 (W4 m ρ c) _ = _
    after_results
    rw [W4_args m ρ c main_arg10 (by decide)]
    rfl
  · show StableHlo.after hostOps3 (W4 m ρ c) _ = _
    after_results
    rw [W4_args m ρ c main_arg11 (by decide)]
    rfl

theorem w6_hid : W6 m ρ c (Proc.devRef .tc main_v12_0) = hidden m c := by
  refine (W6_arr m ρ c 4).trans ((final3_4 (V5 m ρ) c).trans ?_)
  show hid (W5 m ρ c (Proc.devRef .tc main_v8_1)) (W5 m ρ c (Proc.devRef .tc main_v9)) (W5 m ρ c (Proc.devRef .tc main_v10)) = _
  rw [W5_of m ρ c main_v8_1 (by decide), w4_x, (w5_w m ρ c).1, (w5_w m ρ c).2.1]
  rfl

theorem w6_wd : W6 m ρ c (Proc.devRef .tc main_v12_1) = shapeCast S11008x4096 (A m c main_arg11) shapeCasts_S1x11008x4096_S11008x4096 :=
  (W6_arr m ρ c 5).trans ((final3_5 (V5 m ρ) c).trans (w5_w m ρ c).2.2)

theorem w7_y : W7 m ρ c (Proc.devRef .tc main_v13) = mm (hidden m c) (shapeCast S11008x4096 (A m c main_arg11) shapeCasts_S1x11008x4096_S11008x4096) := by
  refine (W7_arr m ρ c 2).trans ((final4 (V6 m ρ) c).trans ?_)
  show mm (W6 m ρ c (Proc.devRef .tc main_v12_0)) (W6 m ρ c (Proc.devRef .tc main_v12_1)) = _
  rw [w6_hid, w6_wd]

theorem w7_h : W7 m ρ c (Proc.devRef .tc main_v8_0) = h m c := by
  rw [W7_of m ρ c main_v8_0 (by decide), W6_of m ρ c main_v8_0 (by decide), W5_of m ρ c main_v8_0 (by decide), w4_h]

theorem w7_g : W7 m ρ c (Proc.devRef .tc main_v5) = A m c main_arg12 := by
  rw [W7_of m ρ c main_v5 (by decide), W6_of m ρ c main_v5 (by decide), W5_of m ρ c main_v5 (by decide), W4_of m ρ c main_v5 (by decide), w3_5]

theorem w8_out : W8 m ρ c (Proc.devRef .tc main_v14) = out m c := by
  refine (W8_arr m ρ c 3).trans ((final5 (V7 m ρ) c).trans ?_)
  show resHalf (W7 m ρ c (Proc.devRef .tc main_v8_0)) (W7 m ρ c (Proc.devRef .tc main_v13)) (W7 m ρ c (Proc.devRef .tc main_v5)) = _
  rw [w7_h, w7_y, w7_g]
  rfl

end Cert.Kernel2Ideal.Val

end
-- ==== Proof.Ref2.lean ====
/- The reference of the calls after the attention, as its list of host operations cut into parts: what each part computes, and the run of the whole. -/
module

public import proofs.«01_k».proof.Proof.Gen.Reference2Ideal
public import proofs.«01_k».proof.Proof.Spec
public import Idealize.ShloMosaic.Lib.StableHlo.Run
public import Idealize.ShloMosaic.Lib.StableHlo.RunRead
public import Idealize.ShloMosaic.Lib.Pipeline.Frame
public import Idealize.ShloMosaic.Lib.Claim

@[expose] public section

set_option maxRecDepth 16384

noncomputable section

namespace Cert.Reference2Ideal.Line
open Cert.Reference2Ideal Cert.Reference2Ideal.Gen Idealize.ShloMosaic Idealize.ShloMosaic.TcCoe Idealize.SL.Sem Idealize.ShloMosaic.StableHlo Cert.Spec

section
variable {F : FTy → Type} [FloatOps F]

/-- The gated sum of the two output projections. -/
abbrev opsMerge : List (HloOp τ sig (Elt F)) :=
  [ unary main_arg2 main_v0 ((extf .f32 · bitsLt_bf16_f32) : (⟨S16384x8192, .bf16⟩ : BufTy).Contents (Elt F) → (⟨S16384x8192, .f32⟩ : BufTy).Contents (Elt F)),
    unary main_v0 main_v1 ((extractStridedSlice S16384x4096 ![0, 0] · slices_S16384x8192_S16384x4096_0_0) : (⟨S16384x8192, .f32⟩ : BufTy).Contents (Elt F) → (⟨S16384x4096, .f32⟩ : BufTy).Contents (Elt F)),
    unary main_v0 main_v2 ((extractStridedSlice S16384x4096 ![0, 4096] · slices_S16384x8192_S16384x4096_0_4096) : (⟨S16384x8192, .f32⟩ : BufTy).Contents (Elt F) → (⟨S16384x4096, .f32⟩ : BufTy).Contents (Elt F)),
    unary main_arg0 main_v3 ((extf .f32 · bitsLt_bf16_f32) : (⟨S16384x2048, .bf16⟩ : BufTy).Contents (Elt F) → (⟨S16384x2048, .f32⟩ : BufTy).Contents (Elt F)),
    unary main_arg4 main_v4 ((extf .f32 · bitsLt_bf16_f32) : (⟨S2048x4096, .bf16⟩ : BufTy).Contents (Elt F) → (⟨S2048x4096, .f32⟩ : BufTy).Contents (Elt F)),
    binary main_v3 main_v4 main_v5 ((fun l r => Host.dotGeneral dot_S16384x2048_S2048x4096_S16384x4096_1_0_0_1_n_n none l r) : (⟨S16384x2048, .f32⟩ : BufTy).Contents (Elt F) → (⟨S2048x4096, .f32⟩ : BufTy).Contents (Elt F) → (⟨S16384x4096, .f32⟩ : BufTy).Contents (Elt F)),
    unary main_arg1 main_v6 ((extf .f32 · bitsLt_bf16_f32) : (⟨S16384x2048, .bf16⟩ : BufTy).Contents (Elt F) → (⟨S16384x2048, .f32⟩ : BufTy).Contents (Elt F)),
    unary main_arg5 main_v7 ((extf .f32 · bitsLt_bf16_f32) : (⟨S2048x4096, .bf16⟩ : BufTy).Contents (Elt F) → (⟨S2048x4096, .f32⟩ : BufTy).Contents (Elt F)),
    binary main_v6 main_v7 main_v8 ((fun l r => Host.dotGeneral dot_S16384x2048_S2048x4096_S16384x4096_1_0_0_1_n_n none l r) : (⟨S16384x2048, .f32⟩ : BufTy).Contents (Elt F) → (⟨S2048x4096, .f32⟩ : BufTy).Contents (Elt F) → (⟨S16384x4096, .f32⟩ : BufTy).Contents (Elt F)),
    binary main_v1 main_v5 main_v9 (mulf : (⟨S16384x4096, .f32⟩ : BufTy).Contents (Elt F) → (⟨S16384x4096, .f32⟩ : BufTy).Contents (Elt F) → (⟨S16384x4096, .f32⟩ : BufTy).Contents (Elt F)),
    binary main_v2 main_v8 main_v10 (mulf : (⟨S16384x4096, .f32⟩ : BufTy).Contents (Elt F) → (⟨S16384x4096, .f32⟩ : BufTy).Contents (Elt F) → (⟨S16384x4096, .f32⟩ : BufTy).Contents (Elt F)),
    binary main_v9 main_v10 main_v11 (addf : (⟨S16384x4096, .f32⟩ : BufTy).Contents (Elt F) → (⟨S16384x4096, .f32⟩ : BufTy).Contents (Elt F) → (⟨S16384x4096, .f32⟩ : BufTy).Contents (Elt F)) ]

theorem opsMerge_sub : (opsMerge (F := F)).Forall fun op => op.bufs ⊆ tcRefs τ sig :=
  ⟨unary_bufs_sub .., unary_bufs_sub .., unary_bufs_sub .., unary_bufs_sub .., unary_bufs_sub .., binary_bufs_sub .., unary_bufs_sub .., unary_bufs_sub .., binary_bufs_sub .., binary_bufs_sub .., binary_bufs_sub .., binary_bufs_sub ..⟩

theorem opsMerge_keeps (V : Valuation τ sig (Elt F)) {r : Ref sig .tc} (h : r ∉ ([main_v0, main_v1, main_v2, main_v3, main_v4, main_v5, main_v6, main_v7, main_v8, main_v9, main_v10, main_v11] : List (Ref sig .tc))) :
    after opsMerge V (no_index (Proc.devRef .tc r)) = V (Proc.devRef .tc r) :=
  after_unwritten _ rfl h V

/-- The mixer's last projection. -/
abbrev opsMix : List (HloOp τ sig (Elt F)) :=
  [ unary main_arg6 main_v12 ((extf .f32 · bitsLt_bf16_f32) : (⟨S4096x4096, .bf16⟩ : BufTy).Contents (Elt F) → (⟨S4096x4096, .f32⟩ : BufTy).Contents (Elt F)),
    binary main_v11 main_v12 main_v13 ((fun l r => Host.dotGeneral dot_S16384x4096_S4096x4096_S16384x4096_1_0_0_1_n_n none l r) : (⟨S16384x4096, .f32⟩ : BufTy).Contents (Elt F) → (⟨S4096x4096, .f32⟩ : BufTy).Contents (Elt F) → (⟨S16384x4096, .f32⟩ : BufTy).Contents (Elt F)) ]

theorem opsMix_sub : (opsMix (F := F)).Forall fun op => op.bufs ⊆ tcRefs τ sig :=
  ⟨unary_bufs_sub .., binary_bufs_sub ..⟩

theorem opsMix_keeps (V : Valuation τ sig (Elt F)) {r : Ref sig .tc} (h : r ∉ ([main_v12, main_v13] : List (Ref sig .tc))) :
    after opsMix V (no_index (Proc.devRef .tc r)) = V (Proc.devRef .tc r) :=
  after_unwritten _ rfl h V

/-- The norm of the mixer's output and its residual connection. -/
abbrev opsRes : List (HloOp τ sig (Elt F)) :=
  [ binary main_v13 main_v13 main_v14 (mulf : (⟨S16384x4096, .f32⟩ : BufTy).Contents (Elt F) → (⟨S16384x4096, .f32⟩ : BufTy).Contents (Elt F) → (⟨S16384x4096, .f32⟩ : BufTy).Contents (Elt F)),
    nullary main_cst (constant S_ .f32 0x00000000#32),
    binary main_v14 main_cst main_v15 ((fun x v => Host.reduceAdd x v reducesTo_S16384x4096_S16384_d1 h_S_) : (⟨S16384x4096, .f32⟩ : BufTy).Contents (Elt F) → (⟨S_, .f32⟩ : BufTy).Contents (Elt F) → (⟨S16384, .f32⟩ : BufTy).Contents (Elt F)),
    unary main_v15 main_v16 (broadcastInDim S16384x1 ![0] bcast_S16384_S16384x1_0 : (⟨S16384, .f32⟩ : BufTy).Contents (Elt F) → (⟨S16384x1, .f32⟩ : BufTy).Contents (Elt F)),
    nullary main_cst_0 (constant S_ .f32 0x45800000#32),
    unary main_cst_0 main_v17 (broadcastInDim S16384x1 ![] bcast_S_S16384x1 : (⟨S_, .f32⟩ : BufTy).Contents (Elt F) → (⟨S16384x1, .f32⟩ : BufTy).Contents (Elt F)),
    binary main_v16 main_v17 main_v18 (Host.divf : (⟨S16384x1, .f32⟩ : BufTy).Contents (Elt F) → (⟨S16384x1, .f32⟩ : BufTy).Contents (Elt F) → (⟨S16384x1, .f32⟩ : BufTy).Contents (Elt F)),
    nullary main_cst_1 (constant S_ .f32 0x358637BD#32),
    unary main_cst_1 main_v19 (broadcastInDim S16384x1 ![] bcast_S_S16384x1 : (⟨S_, .f32⟩ : BufTy).Contents (Elt F) → (⟨S16384x1, .f32⟩ : BufTy).Contents (Elt F)),
    binary main_v18 main_v19 main_v20 (addf : (⟨S16384x1, .f32⟩ : BufTy).Contents (Elt F) → (⟨S16384x1, .f32⟩ : BufTy).Contents (Elt F) → (⟨S16384x1, .f32⟩ : BufTy).Contents (Elt F)),
    unary main_v20 main_v21 (Host.rsqrt : (⟨S16384x1, .f32⟩ : BufTy).Contents (Elt F) → (⟨S16384x1, .f32⟩ : BufTy).Contents (Elt F)),
    unary main_v21 main_v22 (broadcastInDim S16384x4096 ![0, 1] bcast_S16384x1_S16384x4096_0_1 : (⟨S16384x1, .f32⟩ : BufTy).Contents (Elt F) → (⟨S16384x4096, .f32⟩ : BufTy).Contents (Elt F)),
    binary main_v13 main_v22 main_v23 (mulf : (⟨S16384x4096, .f32⟩ : BufTy).Contents (Elt F) → (⟨S16384x4096, .f32⟩ : BufTy).Contents (Elt F) → (⟨S16384x4096, .f32⟩ : BufTy).Contents (Elt F)),
    unary main_arg7 main_v24 (broadcastInDim S16384x4096 ![0, 1] bcast_S1x4096_S16384x4096_0_1 : (⟨S1x4096, .f32⟩ : BufTy).Contents (Elt F) → (⟨S16384x4096, .f32⟩ : BufTy).Contents (Elt F)),
    binary main_v23 main_v24 main_v25 (mulf : (⟨S16384x4096, .f32⟩ : BufTy).Contents (Elt F) → (⟨S16384x4096, .f32⟩ : BufTy).Contents (Elt F) → (⟨S16384x4096, .f32⟩ : BufTy).Contents (Elt F)),
    binary main_arg3 main_v25 main_v26 (addf : (⟨S16384x4096, .f32⟩ : BufTy).Contents (Elt F) → (⟨S16384x4096, .f32⟩ : BufTy).Contents (Elt F) → (⟨S16384x4096, .f32⟩ : BufTy).Contents (Elt F)) ]

theorem opsRes_sub : (opsRes (F := F)).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub .., binary_bufs_sub ..⟩

theorem opsRes_keeps (V : Valuation τ sig (Elt F)) {r : Ref sig .tc} (h : r ∉ ([main_v14, main_cst, main_v15, main_v16, main_cst_0, main_v17, main_v18, main_cst_1, main_v19, main_v20, main_v21, main_v22, main_v23, main_v24, main_v25, main_v26] : List (Ref sig .tc))) :
    after opsRes V (no_index (Proc.devRef .tc r)) = V (Proc.devRef .tc r) :=
  after_unwritten _ rfl h V

/-- The norm before the feed-forward block. -/
abbrev opsNorm : List (HloOp τ sig (Elt F)) :=
  [ binary main_v26 main_v26 main_v27 (mulf : (⟨S16384x4096, .f32⟩ : BufTy).Contents (Elt F) → (⟨S16384x4096, .f32⟩ : BufTy).Contents (Elt F) → (⟨S16384x4096, .f32⟩ : BufTy).Contents (Elt F)),
    nullary main_cst_2 (constant S_ .f32 0x00000000#32),
    binary main_v27 main_cst_2 main_v28 ((fun x v => Host.reduceAdd x v reducesTo_S16384x4096_S16384_d1 h_S_) : (⟨S16384x4096, .f32⟩ : BufTy).Contents (Elt F) → (⟨S_, .f32⟩ : BufTy).Contents (Elt F) → (⟨S16384, .f32⟩ : BufTy).Contents (Elt F)),
    unary main_v28 main_v29 (broadcastInDim S16384x1 ![0] bcast_S16384_S16384x1_0 : (⟨S16384, .f32⟩ : BufTy).Contents (Elt F) → (⟨S16384x1, .f32⟩ : BufTy).Contents (Elt F)),
    nullary main_cst_3 (constant S_ .f32 0x45800000#32),
    unary main_cst_3 main_v30 (broadcastInDim S16384x1 ![] bcast_S_S16384x1 : (⟨S_, .f32⟩ : BufTy).Contents (Elt F) → (⟨S16384x1, .f32⟩ : BufTy).Contents (Elt F)),
    binary main_v29 main_v30 main_v31 (Host.divf : (⟨S16384x1, .f32⟩ : BufTy).Contents (Elt F) → (⟨S16384x1, .f32⟩ : BufTy).Contents (Elt F) → (⟨S16384x1, .f32⟩ : BufTy).Contents (Elt F)),
    nullary main_cst_4 (constant S_ .f32 0x358637BD#32),
    unary main_cst_4 main_v32 (broadcastInDim S16384x1 ![] bcast_S_S16384x1 : (⟨S_, .f32⟩ : BufTy).Contents (Elt F) → (⟨S16384x1, .f32⟩ : BufTy).Contents (Elt F)),
    binary main_v31 main_v32 main_v33 (addf : (⟨S16384x1, .f32⟩ : BufTy).Contents (Elt F) → (⟨S16384x1, .f32⟩ : BufTy).Contents (Elt F) → (⟨S16384x1, .f32⟩ : BufTy).Contents (Elt F)),
    unary main_v33 main_v34 (Host.rsqrt : (⟨S16384x1, .f32⟩ : BufTy).Contents (Elt F) → (⟨S16384x1, .f32⟩ : BufTy).Contents (Elt F)),
    unary main_v34 main_v35 (broadcastInDim S16384x4096 ![0, 1] bcast_S16384x1_S16384x4096_0_1 : (⟨S16384x1, .f32⟩ : BufTy).Contents (Elt F) → (⟨S16384x4096, .f32⟩ : BufTy).Contents (Elt F)),
    binary main_v26 main_v35 main_v36 (mulf : (⟨S16384x4096, .f32⟩ : BufTy).Contents (Elt F) → (⟨S16384x4096, .f32⟩ : BufTy).Contents (Elt F) → (⟨S16384x4096, .f32⟩ : BufTy).Contents (Elt F)),
    unary main_arg8 main_v37 (broadcastInDim S16384x4096 ![0, 1] bcast_S1x4096_S16384x4096_0_1 : (⟨S1x4096, .f32⟩ : BufTy).Contents (Elt F) → (⟨S16384x4096, .f32⟩ : BufTy).Contents (Elt F)),
    binary main_v36 main_v37 main_v38 (mulf : (⟨S16384x4096, .f32⟩ : BufTy).Contents (Elt F) → (⟨S16384x4096, .f32⟩ : BufTy).Contents (Elt F) → (⟨S16384x4096, .f32⟩ : BufTy).Contents (Elt F)) ]

theorem opsNorm_sub : (opsNorm (F := F)).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub ..⟩

theorem opsNorm_keeps (V : Valuation τ sig (Elt F)) {r : Ref sig .tc} (h : r ∉ ([main_v27, main_cst_2, main_v28, main_v29, main_cst_3, main_v30, main_v31, main_cst_4, main_v32, main_v33, main_v34, main_v35, main_v36, main_v37, main_v38] : List (Ref sig .tc))) :
    after opsNorm V (no_index (Proc.devRef .tc r)) = V (Proc.devRef .tc r) :=
  after_unwritten _ rfl h V

/-- The gated hidden layer. -/
abbrev opsHid : List (HloOp τ sig (Elt F)) :=
  [ reshape main_arg9 main_v39 (rfl : (.f32 : EltTy) = .f32) shapeCasts_S1x4096x11008_S4096x11008,
    reshape main_arg10 main_v40 (rfl : (.f32 : EltTy) = .f32) shapeCasts_S1x4096x11008_S4096x11008,
    reshape main_arg11 main_v41 (rfl : (.f32 : EltTy) = .f32) shapeCasts_S1x11008x4096_S11008x4096,
    binary main_v38 main_v39 main_v42 ((fun l r => Host.dotGeneral dot_S16384x4096_S4096x11008_S16384x11008_1_0_0_1_n_n none l r) : (⟨S16384x4096, .f32⟩ : BufTy).Contents (Elt F) → (⟨S4096x11008, .f32⟩ : BufTy).Contents (Elt F) → (⟨S16384x11008, .f32⟩ : BufTy).Contents (Elt F)),
    TRef.unary (TRef.of (T := ⟨S16384x11008, .f32⟩) main_v42) (TRef.of (T := ⟨S16384x11008, .f32⟩) main_call0_v0) Host.negf,
    TRef.unary (TRef.of (T := ⟨S16384x11008, .f32⟩) main_call0_v0) (TRef.of (T := ⟨S16384x11008, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S16384x11008, .f32⟩) main_call0_v2) (broadcastInDim S16384x11008 ![] bcast_S_S16384x11008),
    TRef.binary (TRef.of (T := ⟨S16384x11008, .f32⟩) main_call0_v2) (TRef.of (T := ⟨S16384x11008, .f32⟩) main_call0_v1) (TRef.of (T := ⟨S16384x11008, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S16384x11008, .f32⟩) main_call0_v4) (broadcastInDim S16384x11008 ![] bcast_S_S16384x11008),
    TRef.binary (TRef.of (T := ⟨S16384x11008, .f32⟩) main_call0_v4) (TRef.of (T := ⟨S16384x11008, .f32⟩) main_call0_v3) (TRef.of (T := ⟨S16384x11008, .f32⟩) main_call0_v5) Host.divf,
    TRef.binary (TRef.of (T := ⟨S16384x11008, .f32⟩) main_v42) (TRef.of (T := ⟨S16384x11008, .f32⟩) main_call0_v5) (TRef.of (T := ⟨S16384x11008, .f32⟩) main_v43) mulf,
    binary main_v38 main_v40 main_v44 ((fun l r => Host.dotGeneral dot_S16384x4096_S4096x11008_S16384x11008_1_0_0_1_n_n none l r) : (⟨S16384x4096, .f32⟩ : BufTy).Contents (Elt F) → (⟨S4096x11008, .f32⟩ : BufTy).Contents (Elt F) → (⟨S16384x11008, .f32⟩ : BufTy).Contents (Elt F)),
    binary main_v43 main_v44 main_v45 (mulf : (⟨S16384x11008, .f32⟩ : BufTy).Contents (Elt F) → (⟨S16384x11008, .f32⟩ : BufTy).Contents (Elt F) → (⟨S16384x11008, .f32⟩ : BufTy).Contents (Elt F)) ]

theorem opsHid_sub : (opsHid (F := F)).Forall fun op => op.bufs ⊆ tcRefs τ sig :=
  ⟨reshape_bufs_sub .., reshape_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub ..⟩

theorem opsHid_keeps (V : Valuation τ sig (Elt F)) {r : Ref sig .tc} (h : r ∉ ([main_v39, main_v40, main_v41, main_v42, main_call0_v0, main_call0_v1, main_call0_cst, main_call0_v2, main_call0_v3, main_call0_cst_0, main_call0_v4, main_call0_v5, main_v43, main_v44, main_v45] : List (Ref sig .tc))) :
    after opsHid V (no_index (Proc.devRef .tc r)) = V (Proc.devRef .tc r) :=
  after_unwritten _ rfl h V

/-- The down projection. -/
abbrev opsDown : List (HloOp τ sig (Elt F)) :=
  [ binary main_v45 main_v41 main_v46 ((fun l r => Host.dotGeneral dot_S16384x11008_S11008x4096_S16384x4096_1_0_0_1_n_n none l r) : (⟨S16384x11008, .f32⟩ : BufTy).Contents (Elt F) → (⟨S11008x4096, .f32⟩ : BufTy).Contents (Elt F) → (⟨S16384x4096, .f32⟩ : BufTy).Contents (Elt F)) ]

theorem opsDown_sub : (opsDown (F := F)).Forall fun op => op.bufs ⊆ tcRefs τ sig :=
  binary_bufs_sub ..

theorem opsDown_keeps (V : Valuation τ sig (Elt F)) {r : Ref sig .tc} (h : r ∉ ([main_v46] : List (Ref sig .tc))) :
    after opsDown V (no_index (Proc.devRef .tc r)) = V (Proc.devRef .tc r) :=
  after_unwritten _ rfl h V

/-- The last norm and residual connection. -/
abbrev opsOut : List (HloOp τ sig (Elt F)) :=
  [ binary main_v46 main_v46 main_v47 (mulf : (⟨S16384x4096, .f32⟩ : BufTy).Contents (Elt F) → (⟨S16384x4096, .f32⟩ : BufTy).Contents (Elt F) → (⟨S16384x4096, .f32⟩ : BufTy).Contents (Elt F)),
    nullary main_cst_5 (constant S_ .f32 0x00000000#32),
    binary main_v47 main_cst_5 main_v48 ((fun x v => Host.reduceAdd x v reducesTo_S16384x4096_S16384_d1 h_S_) : (⟨S16384x4096, .f32⟩ : BufTy).Contents (Elt F) → (⟨S_, .f32⟩ : BufTy).Contents (Elt F) → (⟨S16384, .f32⟩ : BufTy).Contents (Elt F)),
    unary main_v48 main_v49 (broadcastInDim S16384x1 ![0] bcast_S16384_S16384x1_0 : (⟨S16384, .f32⟩ : BufTy).Contents (Elt F) → (⟨S16384x1, .f32⟩ : BufTy).Contents (Elt F)),
    nullary main_cst_6 (constant S_ .f32 0x45800000#32),
    unary main_cst_6 main_v50 (broadcastInDim S16384x1 ![] bcast_S_S16384x1 : (⟨S_, .f32⟩ : BufTy).Contents (Elt F) → (⟨S16384x1, .f32⟩ : BufTy).Contents (Elt F)),
    binary main_v49 main_v50 main_v51 (Host.divf : (⟨S16384x1, .f32⟩ : BufTy).Contents (Elt F) → (⟨S16384x1, .f32⟩ : BufTy).Contents (Elt F) → (⟨S16384x1, .f32⟩ : BufTy).Contents (Elt F)),
    nullary main_cst_7 (constant S_ .f32 0x358637BD#32),
    unary main_cst_7 main_v52 (broadcastInDim S16384x1 ![] bcast_S_S16384x1 : (⟨S_, .f32⟩ : BufTy).Contents (Elt F) → (⟨S16384x1, .f32⟩ : BufTy).Contents (Elt F)),
    binary main_v51 main_v52 main_v53 (addf : (⟨S16384x1, .f32⟩ : BufTy).Contents (Elt F) → (⟨S16384x1, .f32⟩ : BufTy).Contents (Elt F) → (⟨S16384x1, .f32⟩ : BufTy).Contents (Elt F)),
    unary main_v53 main_v54 (Host.rsqrt : (⟨S16384x1, .f32⟩ : BufTy).Contents (Elt F) → (⟨S16384x1, .f32⟩ : BufTy).Contents (Elt F)),
    unary main_v54 main_v55 (broadcastInDim S16384x4096 ![0, 1] bcast_S16384x1_S16384x4096_0_1 : (⟨S16384x1, .f32⟩ : BufTy).Contents (Elt F) → (⟨S16384x4096, .f32⟩ : BufTy).Contents (Elt F)),
    binary main_v46 main_v55 main_v56 (mulf : (⟨S16384x4096, .f32⟩ : BufTy).Contents (Elt F) → (⟨S16384x4096, .f32⟩ : BufTy).Contents (Elt F) → (⟨S16384x4096, .f32⟩ : BufTy).Contents (Elt F)),
    unary main_arg12 main_v57 (broadcastInDim S16384x4096 ![0, 1] bcast_S1x4096_S16384x4096_0_1 : (⟨S1x4096, .f32⟩ : BufTy).Contents (Elt F) → (⟨S16384x4096, .f32⟩ : BufTy).Contents (Elt F)),
    binary main_v56 main_v57 main_v58 (mulf : (⟨S16384x4096, .f32⟩ : BufTy).Contents (Elt F) → (⟨S16384x4096, .f32⟩ : BufTy).Contents (Elt F) → (⟨S16384x4096, .f32⟩ : BufTy).Contents (Elt F)),
    nullary main_cst_8 (constant S_ .f32 0x3F000000#32),
    unary main_cst_8 main_v59 (broadcastInDim S16384x4096 ![] bcast_S_S16384x4096 : (⟨S_, .f32⟩ : BufTy).Contents (Elt F) → (⟨S16384x4096, .f32⟩ : BufTy).Contents (Elt F)),
    binary main_v59 main_v58 main_v60 (mulf : (⟨S16384x4096, .f32⟩ : BufTy).Contents (Elt F) → (⟨S16384x4096, .f32⟩ : BufTy).Contents (Elt F) → (⟨S16384x4096, .f32⟩ : BufTy).Contents (Elt F)),
    binary main_v26 main_v60 main_v61 (addf : (⟨S16384x4096, .f32⟩ : BufTy).Contents (Elt F) → (⟨S16384x4096, .f32⟩ : BufTy).Contents (Elt F) → (⟨S16384x4096, .f32⟩ : BufTy).Contents (Elt F)) ]

theorem opsOut_sub : (opsOut (F := F)).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., binary_bufs_sub .., nullary_bufs_sub .., unary_bufs_sub .., binary_bufs_sub .., binary_bufs_sub ..⟩

theorem opsOut_keeps (V : Valuation τ sig (Elt F)) {r : Ref sig .tc} (h : r ∉ ([main_v47, main_cst_5, main_v48, main_v49, main_cst_6, main_v50, main_v51, main_cst_7, main_v52, main_v53, main_v54, main_v55, main_v56, main_v57, main_v58, main_cst_8, main_v59, main_v60, main_v61] : List (Ref sig .tc))) :
    after opsOut V (no_index (Proc.devRef .tc r)) = V (Proc.devRef .tc r) :=
  after_unwritten _ rfl h V

/-- All the operations, in order. -/
abbrev line : List (HloOp τ sig (Elt F)) := opsMerge ++ (opsMix ++ (opsRes ++ (opsNorm ++ (opsHid ++ (opsDown ++ (opsOut))))))

set_option maxHeartbeats 4000000 in
theorem main_line (c : Dev nD) : main (F := F) c = seq line := rfl

theorem line_sub : (line (F := F)).Forall fun op => op.bufs ⊆ tcRefs τ sig :=
  List.forall_append.mpr ⟨opsMerge_sub, List.forall_append.mpr ⟨opsMix_sub, List.forall_append.mpr ⟨opsRes_sub, List.forall_append.mpr ⟨opsNorm_sub, List.forall_append.mpr ⟨opsHid_sub, List.forall_append.mpr ⟨opsDown_sub, opsOut_sub⟩⟩⟩⟩⟩⟩

theorem no_scoped_refs : (Finset.univ.filter fun b : Ref sig .tc => b.isScoped) = ∅ := by decide

theorem no_scoped_sems : (Finset.univ.filter fun sm : SemLoc sig => sm.isScoped .tc) = ∅ := by decide

/-- Every run ends with each buffer at what the operations leave in it. -/
theorem run (m : (ℓ : Loc nD τ sig) → Buf (Elt F) ℓ) (ρ : Dev nD → PrngReg) :
    θ_run defs (onTc (τ := τ) main) ⟨m, fun _ => 0, ρ⟩ fun r => ∀ (d : Dev nD) (b : Ref sig .tc),
      r.2.mem ((d.tc : Thread nD τ).loc b) = after line (launchContents m d) (Proc.devRef .tc b) :=
  run_seq no_scoped_refs no_scoped_sems defs main (fun _ => line) main_line (fun _ => line_sub) m ρ

end

variable (V : Valuation τ sig (Elt Ideal))

theorem merge_val : after opsMerge V (no_index (Proc.devRef .tc main_v11))
    = (merge (V (Proc.devRef .tc main_arg0)) (V (Proc.devRef .tc main_arg1)) (V (Proc.devRef .tc main_arg2)) (V (Proc.devRef .tc main_arg4)) (V (Proc.devRef .tc main_arg5)) : Mat 16384 4096) := by
  after_results
  funext j
  idx_vars j
  pointwise [merge, mm]

theorem mix_val : after opsMix V (no_index (Proc.devRef .tc main_v13)) = (mm (V (Proc.devRef .tc main_v11)) (V (Proc.devRef .tc main_arg6)) : Mat 16384 4096) := by
  after_results
  funext j
  idx_vars j
  pointwise [mm]

theorem res_val : after opsRes V (no_index (Proc.devRef .tc main_v26))
    = (res (V (Proc.devRef .tc main_arg3)) (V (Proc.devRef .tc main_v13)) (V (Proc.devRef .tc main_arg7)) : Mat 16384 4096) := by
  after_results
  funext j
  idx_vars j
  pointwise [res, rms]

theorem norm_val : after opsNorm V (no_index (Proc.devRef .tc main_v38))
    = (rms (V (Proc.devRef .tc main_v26)) (V (Proc.devRef .tc main_arg8)) : Mat 16384 4096) := by
  after_results
  funext j
  idx_vars j
  pointwise [rms]

theorem hid_val : after opsHid V (no_index (Proc.devRef .tc main_v45))
    = (hid (V (Proc.devRef .tc main_v38)) (shapeCast S4096x11008 (V (Proc.devRef .tc main_arg9)) shapeCasts_S1x4096x11008_S4096x11008)
        (shapeCast S4096x11008 (V (Proc.devRef .tc main_arg10)) shapeCasts_S1x4096x11008_S4096x11008) : Mat 16384 11008) := by
  simp only [opsHid, TRef.binary, TRef.nullary, TRef.unary, TRef.toBuf, TRef.ofBuf, cast_eq]
  after_results
  funext j
  idx_vars j
  pointwise [hid, mm, sg_eq]

theorem hid_w : after opsHid V (no_index (Proc.devRef .tc main_v41))
    = shapeCast S11008x4096 (V (Proc.devRef .tc main_arg11)) shapeCasts_S1x11008x4096_S11008x4096 := by
  simp only [opsHid, TRef.binary, TRef.nullary, TRef.unary, TRef.toBuf, TRef.ofBuf, cast_eq]
  after_results
  rfl

theorem down_val : after opsDown V (no_index (Proc.devRef .tc main_v46)) = (mm (V (Proc.devRef .tc main_v45)) (V (Proc.devRef .tc main_v41)) : Mat 16384 4096) := by
  after_results
  funext j
  idx_vars j
  pointwise [mm]

theorem out_val : after opsOut V (no_index (Proc.devRef .tc main_v61))
    = (resHalf (V (Proc.devRef .tc main_v26)) (V (Proc.devRef .tc main_v46)) (V (Proc.devRef .tc main_arg12)) : Mat 16384 4096) := by
  after_results
  funext j
  idx_vars j
  pointwise [resHalf, rms]

/-- What the reference returns, as a function of the arguments. -/
theorem line_val : after line V (Proc.devRef .tc main_v61)
    = (let h := res (V (Proc.devRef .tc main_arg3))
          (mm (merge (V (Proc.devRef .tc main_arg0)) (V (Proc.devRef .tc main_arg1)) (V (Proc.devRef .tc main_arg2)) (V (Proc.devRef .tc main_arg4)) (V (Proc.devRef .tc main_arg5)))
            (V (Proc.devRef .tc main_arg6))) (V (Proc.devRef .tc main_arg7))
       resHalf h (mm (hid (rms h (V (Proc.devRef .tc main_arg8)))
            (shapeCast S4096x11008 (V (Proc.devRef .tc main_arg9)) shapeCasts_S1x4096x11008_S4096x11008)
            (shapeCast S4096x11008 (V (Proc.devRef .tc main_arg10)) shapeCasts_S1x4096x11008_S4096x11008))
          (shapeCast S11008x4096 (V (Proc.devRef .tc main_arg11)) shapeCasts_S1x11008x4096_S11008x4096)) (V (Proc.devRef .tc main_arg12)) : Mat 16384 4096) := by
  rw [line, after_append, after_append, after_append, after_append, after_append, after_append]
  simp (disch := decide) only [out_val, down_val, hid_val, hid_w, norm_val, res_val, mix_val, merge_val,
    opsDown_keeps, opsHid_keeps, opsNorm_keeps, opsRes_keeps, opsMix_keeps, opsMerge_keeps]

theorem line_arg {r : Ref sig .tc}
    (h : r ∈ ([main_arg0, main_arg1, main_arg2, main_arg3, main_arg4, main_arg5, main_arg6, main_arg7, main_arg8, main_arg9, main_arg10, main_arg11, main_arg12] : List (Ref sig .tc))) :
    after line V (Proc.devRef .tc r) = V (Proc.devRef .tc r) := by
  rw [line, after_append, after_append, after_append, after_append, after_append, after_append]
  fin_cases h <;>
    simp (disch := decide) only [opsOut_keeps, opsDown_keeps, opsHid_keeps, opsNorm_keeps, opsRes_keeps, opsMix_keeps, opsMerge_keeps]

end Cert.Reference2Ideal.Line

end
-- ==== Proof.Body3.lean ====
/- The first gate/up call with all five casts riding in it, one of them over blocks of 64 rows of an array of 20496: the
   last block ends past the array, so its transfers move only its first 16 rows. What the body leaves in each staging
   buffer, the body's run at any point, and the launch. On the cut window and on its result nothing is said of the rows
   past the array's end. -/
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Pipeline.ValueKit

@[expose] public section

set_option maxRecDepth 16384

noncomputable section

namespace Cert.Kernel3Ideal.Val

open Idealize.ShloMosaic Idealize.ShloMosaic.TcCoe Idealize.ShloMosaic.Tactic Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body stores -/

abbrev r_x : Rect S2048x4096 := Rect.unit (s := S2048x4096) ![0, 0] S2048x4096.size inb_S2048x4096_S2048x4096_0_0
abbrev r_w : Rect S4096x256 := Rect.unit (s := S4096x256) ![0, 0] S4096x256.size inb_S4096x256_S4096x256_0_0
abbrev r_32 : Rect S32x4096 := Rect.unit (s := S32x4096) ![0, 0] S32x4096.size inb_S32x4096_S32x4096_0_0
abbrev r_64 : Rect S64x4096 := Rect.unit (s := S64x4096) ![0, 0] S64x4096.size inb_S64x4096_S64x4096_0_0
abbrev r_16 : Rect S16x4096 := Rect.unit (s := S16x4096) ![0, 0] S16x4096.size inb_S16x4096_S16x4096_0_0
abbrev r_h : Rect S2048x256 := Rect.unit (s := S2048x256) ![0, 0] S2048x256.size inb_S2048x256_S2048x256_0_0

/-- Result 0's staging buffer after the body. -/
def out8 (x0 : Vec F S2048x4096 .bf16) (x1 : Vec F S4096x256 .f32) (x2 : Vec F S4096x256 .f32) : Vec F S2048x256 .bf16 :=
  View.canon [⟨r_h, k0_pay1 (View.ld x0 r_x) (k0_pay7 (View.ld x0 r_x) (View.ld x1 r_w)) (View.ld x2 r_w)⟩]

/-- Result 1's staging buffer after the body. -/
def out9 (x3 : Vec F S32x4096 .f32) : Vec F S32x4096 .bf16 :=
  View.canon [⟨r_32, k0_pay2 (View.ld x3 r_32)⟩]

/-- Result 2's staging buffer after the body. -/
def out10 (x4 : Vec F S64x4096 .f32) : Vec F S64x4096 .bf16 :=
  View.canon [⟨r_64, k0_pay3 (View.ld x4 r_64)⟩]

/-- Result 3's staging buffer after the body. -/
def out11 (x5 : Vec F S16x4096 .f32) : Vec F S16x4096 .bf16 :=
  View.canon [⟨r_16, k0_pay4 (View.ld x5 r_16)⟩]

/-- Result 4's staging buffer after the body. -/
def out12 (x6 : Vec F S16x4096 .f32) : Vec F S16x4096 .bf16 :=
  View.canon [⟨r_16, k0_pay5 (View.ld x6 r_16)⟩]

/-- Result 5's staging buffer after the body. -/
def out13 (x7 : Vec F S16x4096 .f32) : Vec F S16x4096 .bf16 :=
  View.canon [⟨r_16, k0_pay6 (View.ld x7 r_16)⟩]

theorem cover_r_h (p0 : Vec F S2048x256 .bf16) (y : S2048x256.Idx) :
    ∃ pc ∈ ([⟨r_h, p0⟩] : List (View.Piece (Elt F) S2048x256 .bf16)), y ∈ pc.1.set :=
  View.cover_of_tiled [⟨r_h, p0⟩] S2048x256.size (by rfl) y

theorem cover_r_32 (p0 : Vec F S32x4096 .bf16) (y : S32x4096.Idx) :
    ∃ pc ∈ ([⟨r_32, p0⟩] : List (View.Piece (Elt F) S32x4096 .bf16)), y ∈ pc.1.set :=
  View.cover_of_tiled [⟨r_32, p0⟩] S32x4096.size (by rfl) y

theorem cover_r_64 (p0 : Vec F S64x4096 .bf16) (y : S64x4096.Idx) :
    ∃ pc ∈ ([⟨r_64, p0⟩] : List (View.Piece (Elt F) S64x4096 .bf16)), y ∈ pc.1.set :=
  View.cover_of_tiled [⟨r_64, p0⟩] S64x4096.size (by rfl) y

theorem cover_r_16 (p0 : Vec F S16x4096 .bf16) (y : S16x4096.Idx) :
    ∃ pc ∈ ([⟨r_16, p0⟩] : List (View.Piece (Elt F) S16x4096 .bf16)), y ∈ pc.1.set :=
  View.cover_of_tiled [⟨r_16, p0⟩] S16x4096.size (by rfl) y

/-! ## The body's run -/

set_option maxHeartbeats 1000000 in
/-- From the inputs' buffers at any contents and the results' at anything, the body ends with the inputs' as they were and
    each result's at what is stored there. -/
theorem sound_kernel (c : Dev nD) (E : Set ℕ) (i : grid0.Coords) (a0 : Memref sig .tc .vmem S2048x4096 .bf16) (h0 : a0.IsWhole) (a1 : Memref sig .tc .vmem S4096x256 .f32) (h1 : a1.IsWhole) (a2 : Memref sig .tc .vmem S4096x256 .f32) (h2 : a2.IsWhole) (a3 : Memref sig .tc .vmem S32x4096 .f32) (h3 : a3.IsWhole) (a4 : Memref sig .tc .vmem S64x4096 .f32) (h4 : a4.IsWhole) (a5 : Memref sig .tc .vmem S16x4096 .f32) (h5 : a5.IsWhole) (a6 : Memref sig .tc .vmem S16x4096 .f32) (h6 : a6.IsWhole) (a7 : Memref sig .tc .vmem S16x4096 .f32) (h7 : a7.IsWhole) (a8 : Memref sig .tc .vmem S2048x256 .bf16) (h8 : a8.IsWhole) (a9 : Memref sig .tc .vmem S32x4096 .bf16) (h9 : a9.IsWhole) (a10 : Memref sig .tc .vmem S64x4096 .bf16) (h10 : a10.IsWhole) (a11 : Memref sig .tc .vmem S16x4096 .bf16) (h11 : a11.IsWhole) (a12 : Memref sig .tc .vmem S16x4096 .bf16) (h12 : a12.IsWhole) (a13 : Memref sig .tc .vmem S16x4096 .bf16) (h13 : a13.IsWhole)
    (x0 : Vec F S2048x4096 .bf16) (x1 : Vec F S4096x256 .f32) (x2 : Vec F S4096x256 .f32) (x3 : Vec F S32x4096 .f32) (x4 : Vec F S64x4096 .f32) (x5 : Vec F S16x4096 .f32) (x6 : Vec F S16x4096 .f32) (x7 : Vec F S16x4096 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (out8 x0 x1 x2) ∗ owns (c : Thread nD τ) a9 fullShare (out9 x3) ∗ owns (c : Thread nD τ) a10 fullShare (out10 x4) ∗ owns (c : Thread nD τ) a11 fullShare (out11 x5) ∗ owns (c : Thread nD τ) a12 fullShare (out12 x6) ∗ owns (c : Thread nD τ) a13 fullShare (out13 x7)) -∗ K ⟨⟩))
      ⊢ wp frame (wpE (defs₀ (F := F)) Variants.none c none) E (cc0_gateup i a0 h0 a1 h1 a2 h2 a3 h3 a4 h4 a5 h5 a6 h6 a7 h7 a8 h8 a9 h9 a10 h10 a11 h11 a12 h12 a13 h13) K := by
  simp only [cc0_gateup_eq_skeleton]; unfold cc0_gateup_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_r_h _)
  isplitl [H9]
  · iexists _; isplitr
    swap; · iexact H9
    ipureintro
    exact View.read_writes_eq_canon _ _ _ (cover_r_32 _)
  isplitl [H10]
  · iexists _; isplitr
    swap; · iexact H10
    ipureintro
    exact View.read_writes_eq_canon _ _ _ (cover_r_64 _)
  isplitl [H11]
  · iexists _; isplitr
    swap; · iexact H11
    ipureintro
    exact View.read_writes_eq_canon _ _ _ (cover_r_16 _)
  isplitl [H12]
  · iexists _; isplitr
    swap; · iexact H12
    ipureintro
    exact View.read_writes_eq_canon _ _ _ (cover_r_16 _)
  iexists _; isplitr
  swap; · iexact H13
  ipureintro
  exact View.read_writes_eq_canon _ _ _ (cover_r_16 _)

/-! ## The pipeline's data -/

/-- The cut window's staging buffer at a point: its block's rows inside the array, and some word past it. -/
def blk4 (c : Dev nD) (t : Fin cfg0.N) : Vec F S64x4096 .f32 :=
  win0_4.fill (grid0.coords t) (fun _ => Scalar.ofBits .f32 0#32) (iblk m c 4 t)

/-- What each staging buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blk4 m c t
    | ⟨5, _⟩ => iblk m c 5 t
    | ⟨6, _⟩ => iblk m c 6 t
    | ⟨7, _⟩ => iblk m c 7 t
    | ⟨8, _⟩ => out8 (iblk m c 0 t) (iblk m c 1 t) (iblk m c 2 t)
    | ⟨9, _⟩ => out9 (iblk m c 3 t)
    | ⟨10, _⟩ => out10 (blk4 m c t)
    | ⟨11, _⟩ => out11 (iblk m c 5 t)
    | ⟨12, _⟩ => out12 (iblk m c 6 t)
    | ⟨13, _⟩ => out13 (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = blk4 m c t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = out8 (iblk m c 0 t) (iblk m c 1 t) (iblk m c 2 t) := by dsimp only [dats]
theorem after_9 (c : Dev nD) (t : Fin cfg0.N) : (dats m 0 c).after 9 t = out9 (iblk m c 3 t) := by dsimp only [dats]
theorem after_10 (c : Dev nD) (t : Fin cfg0.N) : (dats m 0 c).after 10 t = out10 (blk4 m c t) := by dsimp only [dats]
theorem after_11 (c : Dev nD) (t : Fin cfg0.N) : (dats m 0 c).after 11 t = out11 (iblk m c 5 t) := by dsimp only [dats]
theorem after_12 (c : Dev nD) (t : Fin cfg0.N) : (dats m 0 c).after 12 t = out12 (iblk m c 6 t) := by dsimp only [dats]
theorem after_13 (c : Dev nD) (t : Fin cfg0.N) : (dats m 0 c).after 13 t = out13 (iblk m c 7 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- Where the cut window's block does not move, neither does its cut. -/
theorem clip4 (t t' : Fin cfg0.N) (h : win0_4.index t = win0_4.index t') :
    win0_4.clip (grid0.coords t) = win0_4.clip (grid0.coords t') :=
  funext fun a => congrArg (fun f : Fin 2 → Nat => Pipeline.Clip.of (f a) (S64x4096.size a) (S20496x4096.size a)) h

/-- The cut window's buffer is found holding its block on the rows inside the array. -/
theorem before_4 (c : Dev nD) (t : Fin cfg0.N) (d) :
    (dats m 0 c).before 4 t d = win0_4.fill (grid0.coords t) d (iblk m c 4 t) :=
  ((dats m 0 c).before_in_eq_fetched 4 rfl (fun _ => rfl) clip4
    (fun t => by
      rw [after_4]
      refine (win0_4.cut_fill (grid0.coords t) _ _).trans ?_
      unfold Dat.blockOf iblk; rw [A_eq]) t d).trans
    (by unfold Dat.fetched Dat.blockOf iblk; rw [A_eq])

theorem zeros2 : (![0, 0] : Fin 2 → Nat) = fun _ => 0 := funext fun a => by fin_cases a <;> rfl

theorem out10_apply (x : Vec F S64x4096 .f32) (j : S64x4096.Idx) :
    out10 x j = FloatOps.truncf .bf16 bitsLt_bf16_f32 (x j) := by
  unfold out10
  rw [View.canon_unit_zero zeros2, View.ld_unit_zero zeros2]
  unfold k0_pay3
  simp only [shapeCast_self]
  rfl

/-- The cast of a cut block is the cut of its cast. -/
theorem cut_out10 (i : grid0.Coords) (d d' : Vec F S64x4096 .f32) (b : (win0_4.xblock i).Idx → F .f32) :
    win0_10.fill i (out10 (win0_4.fill i d b)) (win0_10.cut i (out10 (win0_4.fill i d' b))) = out10 (win0_4.fill i d b) := by
  have h : win0_10.cut i (out10 (win0_4.fill i d' b)) = win0_10.cut i (out10 (win0_4.fill i d b)) := by
    funext j
    show out10 (win0_4.fill i d' b) (win0_4.xinj i j) = out10 (win0_4.fill i d b) (win0_4.xinj i j)
    rw [out10_apply, out10_apply]
    exact congrArg _ ((win0_4.fill_xinj i d' b j).trans (win0_4.fill_xinj i d b j).symm)
  rw [h, win0_10.fill_cut]

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it gives back: the cut window's buffers up to the rows past the array's end. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare (win0_4.fill (grid0.coords t) d (win0_4.cut (grid0.coords t) ((dats m 0 c).after 4 t))))
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ d, owns (c : Thread nD τ) (st0_10 t) fullShare (win0_10.fill (grid0.coords t) d (win0_10.cut (grid0.coords t) ((dats m 0 c).after 10 t))))
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t)
    (win0_4.fill (grid0.coords t) d4 (iblk m c 4 t)) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iexists d4
    rw [show win0_4.cut (grid0.coords t) (blk4 m c t) = iblk m c 4 t from win0_4.cut_fill _ _ _]
    iexact H4
  isplitl [H5]; · iexact H5
  isplitl [H6]; · iexact H6
  isplitl [H7]; · iexact H7
  isplitl [H8]; · iexact H8
  isplitl [H9]; · iexact H9
  isplitl [H10]
  · iexists out10 (win0_4.fill (grid0.coords t) d4 (iblk m c 4 t))
    unfold blk4
    rw [cut_out10]
    iexact H10
  isplitl [H11]; · iexact H11
  isplitl [H12]; · iexact H12
  iexact H13

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every run ends with each array of the call at what its write-backs leave, every other unscoped buffer as the call
    found it, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

end Cert.Kernel3Ideal.Val

end
-- ==== Proof.Val3.lean ====
/- The first gate/up call with all five casts: what each of its arrays ends holding, as a formula of the arguments, and
   the run's results. -/
module

public import proofs.«01_k».proof.Proof.Body3
public import proofs.«01_k».proof.Proof.Spec
public import Idealize.ShloMosaic.Lib.Claim

@[expose] public section

set_option maxRecDepth 16384

noncomputable section

namespace Cert.Kernel3Ideal.Val
open Idealize.ShloMosaic Idealize.ShloMosaic.TcCoe Idealize.ShloMosaic.Tactic Cert.Kernel3Ideal Cert.Kernel3Ideal.Gen Cert.Spec
open Idealize.ShloMosaic.Pipeline (Dat Cfg Window)

variable (m : (ℓ : Loc nD τ sig) → Buf (Elt Ideal) ℓ) (ρ : Dev nD → PrngReg)

theorem idx : ∀ t : Fin cfg0.N,
    win0_0.index t = ![t.val / 43, 0] ∧ win0_1.index t = ![0, t.val % 43] ∧ win0_2.index t = ![0, t.val % 43]
      ∧ win0_3.index t = ![t.val, 0] ∧ win0_4.index t = ![min t.val 320, 0] ∧ win0_5.index t = ![min t.val 127, 0]
      ∧ win0_6.index t = ![min t.val 127, 0] ∧ win0_7.index t = ![min t.val 255, 0] ∧ win0_8.index t = ![t.val / 43, t.val % 43]
      ∧ win0_9.index t = ![t.val, 0] ∧ win0_10.index t = ![min t.val 320, 0] ∧ win0_11.index t = ![min t.val 127, 0]
      ∧ win0_12.index t = ![min t.val 127, 0] ∧ win0_13.index t = ![min t.val 255, 0] :=
  (by decide +kernel : ∀ t : Fin grid0.N, _)

theorem final8 (c : Dev nD) : (dats m 0 c).arrAt 8 cfg0.N = (hid (V m c main_arg0) (V m c main_v0) (V m c main_v1) : Mat 16384 11008) := by
  refine (dats m 0 c).arrAt_eq_of_covers 8 _ (by decide +kernel) fun t _ y => ?_
  blk_simp
  rw [after_8]
  unfold out8
  rw [View.canon_unit_zero zeros2, View.ld_unit_zero zeros2, View.ld_unit_zero zeros2, View.ld_unit_zero zeros2]
  pointwise [k0_pay1, k0_pay7, hid, mm, sg]
  blk_point [iblk, idx t]

theorem final9 (c : Dev nD) : (dats m 0 c).arrAt 9 cfg0.N = (V m c main_v2 : Mat 11008 4096) := by
  refine (dats m 0 c).arrAt_eq_of_covers 9 _ (by decide +kernel) fun t _ y => ?_
  blk_simp
  rw [after_9]
  unfold out9
  rw [View.canon_unit_zero zeros2, View.ld_unit_zero zeros2]
  pointwise [k0_pay2]
  blk_point [iblk, idx t]

theorem final11 (c : Dev nD) : (dats m 0 c).arrAt 11 cfg0.N = (V m c main_v5 : Mat 2048 4096) := by
  refine (dats m 0 c).arrAt_eq_of_covers 11 _ (by decide +kernel) fun t _ y => ?_
  blk_simp
  rw [after_11]
  unfold out11
  rw [View.canon_unit_zero zeros2, View.ld_unit_zero zeros2]
  pointwise [k0_pay4]
  blk_point [iblk, idx t]

theorem final12 (c : Dev nD) : (dats m 0 c).arrAt 12 cfg0.N = (V m c main_v6 : Mat 2048 4096) := by
  refine (dats m 0 c).arrAt_eq_of_covers 12 _ (by decide +kernel) fun t _ y => ?_
  blk_simp
  rw [after_12]
  unfold out12
  rw [View.canon_unit_zero zeros2, View.ld_unit_zero zeros2]
  pointwise [k0_pay5]
  blk_point [iblk, idx t]

theorem final13 (c : Dev nD) : (dats m 0 c).arrAt 13 cfg0.N = (V m c main_v7 : Mat 4096 4096) := by
  refine (dats m 0 c).arrAt_eq_of_covers 13 _ (by decide +kernel) fun t _ y => ?_
  blk_simp
  rw [after_13]
  unfold out13
  rw [View.canon_unit_zero zeros2, View.ld_unit_zero zeros2]
  pointwise [k0_pay6]
  blk_point [iblk, idx t]

/-- The cut result: the rows the last block moves are the array's last rows. -/
theorem final10 (c : Dev nD) : (dats m 0 c).arrAt 10 cfg0.N = (V m c main_v4 : Mat 20496 4096) := by
  refine (dats m 0 c).arrAt_eq_of_covers 10 _ (by decide +kernel) fun t _ y => ?_
  rw [after_10]
  have e : out10 (blk4 m c t) (win0_10.xinj (grid0.coords t) y) = (iblk m c 4 t y : EReal) := by
    rw [out10_apply]
    show (blk4 m c t (win0_4.xinj (grid0.coords t) y) : EReal) = _
    unfold blk4
    exact win0_4.fill_xinj (grid0.coords t) _ (iblk m c 4 t) y
  refine (congrArg _ e).trans ?_
  rfl

end Cert.Kernel3Ideal.Val

end
-- ==== Proof.Sem3.lean ====
/- The first gate/up call with all five casts: what its runs leave, argument by argument and result by result, and the
   same results from the reference. -/
module

public import proofs.«01_k».proof.Proof.Val3
public import proofs.«01_k».proof.Proof.Gen.Reference3Ideal.Run

@[expose] public section

set_option maxRecDepth 16384

noncomputable section

namespace Cert.Kernel3Ideal.Val
open Idealize.ShloMosaic Idealize.ShloMosaic.TcCoe Idealize.ShloMosaic.Tactic Cert.Kernel3Ideal Cert.Kernel3Ideal.Gen Cert.Spec Idealize.SL.Sem
open Idealize.ShloMosaic.Pipeline (Dat Cfg Window)

section
variable {F : FTy → Type} [FloatOps F]
variable (m : (ℓ : Loc nD τ sig) → Buf (Elt F) ℓ) (ρ : Dev nD → PrngReg)

/-- The call leaves the arguments as launched. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- Every run ends with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨args_kept m h.1, h.2⟩) (run_main m ρ)

end

section
variable (m : (ℓ : Loc nD τ sig) → Buf (Elt Ideal) ℓ) (c : Dev nD)

/-- The six results, as formulas of the arguments. -/
def o0 : Mat 16384 11008 := hid (m ((c : Thread nD τ).loc main_arg0)) (shapeCast S4096x11008 (m ((c : Thread nD τ).loc main_arg1)) shapeCasts_S1x4096x11008_S4096x11008)
  (shapeCast S4096x11008 (m ((c : Thread nD τ).loc main_arg2)) shapeCasts_S1x4096x11008_S4096x11008)
def o1 : Mat 11008 4096 := shapeCast S11008x4096 (m ((c : Thread nD τ).loc main_arg3)) shapeCasts_S1x11008x4096_S11008x4096
def o2 : Mat 20496 4096 := transpose S20496x4096 [1, 0] (shapeCast S4096x20496 (m ((c : Thread nD τ).loc main_arg4)) shapeCasts_S1x4096x20496_S4096x20496) transposes_S4096x20496_S20496x4096_1_0
def o3 : Mat 2048 4096 := shapeCast S2048x4096 (m ((c : Thread nD τ).loc main_arg5)) shapeCasts_S1x2048x4096_S2048x4096
def o4 : Mat 2048 4096 := shapeCast S2048x4096 (m ((c : Thread nD τ).loc main_arg6)) shapeCasts_S1x2048x4096_S2048x4096
def o5 : Mat 4096 4096 := shapeCast S4096x4096 (m ((c : Thread nD τ).loc main_arg7)) shapeCasts_S1x4096x4096_S4096x4096

theorem V_v0 : V m c main_v0 = shapeCast S4096x11008 (m ((c : Thread nD τ).loc main_arg1)) shapeCasts_S1x4096x11008_S4096x11008 := by
  show StableHlo.after hostOps0 _ _ = _
  after_results
  rfl
theorem V_v1 : V m c main_v1 = shapeCast S4096x11008 (m ((c : Thread nD τ).loc main_arg2)) shapeCasts_S1x4096x11008_S4096x11008 := by
  show StableHlo.after hostOps0 _ _ = _
  after_results
  rfl
theorem V_v2 : V m c main_v2 = o1 m c := by
  show StableHlo.after hostOps0 _ _ = _
  after_results
  rfl
theorem V_v4 : V m c main_v4 = o2 m c := by
  show StableHlo.after hostOps0 _ _ = _
  after_results
  rfl
theorem V_v5 : V m c main_v5 = o3 m c := by
  show StableHlo.after hostOps0 _ _ = _
  after_results
  rfl
theorem V_v6 : V m c main_v6 = o4 m c := by
  show StableHlo.after hostOps0 _ _ = _
  after_results
  rfl
theorem V_v7 : V m c main_v7 = o5 m c := by
  show StableHlo.after hostOps0 _ _ = _
  after_results
  rfl

variable {m} {r : PUnit × MemSt nD τ sig (Elt Ideal)}

theorem res0 (h : Pipeline.FramePost cfgs (dats m) 0 (V m) r) : r.2.mem ((c.tc : Thread nD τ).loc main_v8_0) = o0 m c := by
  refine ((h c).1 8).trans ((final8 m c).trans ?_)
  rw [V_v0, V_v1, V_main_arg0]
  rfl
theorem res1 (h : Pipeline.FramePost cfgs (dats m) 0 (V m) r) : r.2.mem ((c.tc : Thread nD τ).loc main_v8_1) = o1 m c :=
  ((h c).1 9).trans ((final9 m c).trans (V_v2 m c))
theorem res2 (h : Pipeline.FramePost cfgs (dats m) 0 (V m) r) : r.2.mem ((c.tc : Thread nD τ).loc main_v8_2) = o2 m c :=
  ((h c).1 10).trans ((final10 m c).trans (V_v4 m c))
theorem res3 (h : Pipeline.FramePost cfgs (dats m) 0 (V m) r) : r.2.mem ((c.tc : Thread nD τ).loc main_v8_3) = o3 m c :=
  ((h c).1 11).trans ((final11 m c).trans (V_v5 m c))
theorem res4 (h : Pipeline.FramePost cfgs (dats m) 0 (V m) r) : r.2.mem ((c.tc : Thread nD τ).loc main_v8_4) = o4 m c :=
  ((h c).1 12).trans ((final12 m c).trans (V_v6 m c))
theorem res5 (h : Pipeline.FramePost cfgs (dats m) 0 (V m) r) : r.2.mem ((c.tc : Thread nD τ).loc main_v8_5) = o5 m c :=
  ((h c).1 13).trans ((final13 m c).trans (V_v7 m c))

end

end Cert.Kernel3Ideal.Val

namespace Cert.Reference3Ideal.Line
open Idealize.ShloMosaic Idealize.ShloMosaic.TcCoe Idealize.ShloMosaic.Tactic Cert.Reference3Ideal Cert.Reference3Ideal.Gen Cert.Spec Idealize.SL.Sem

/-- The reference's gated hidden layer. -/
theorem hid_val (a : FVec Ideal S16384x4096 .bf16) (wg wu : FVec Ideal S4096x11008 .f32) :
    (show FVec Ideal S16384x11008 .bf16 from truncf .bf16 (mulf (mulf (Host.dotGeneral dot_S16384x4096_S4096x11008_S16384x11008_1_0_0_1_n_n none (extf .f32 a bitsLt_bf16_f32) wg) (Host.divf (broadcastInDim S16384x11008 ![] bcast_S_S16384x11008 (constant (F := Ideal) S_ .f32 0x3F800000#32)) (addf (broadcastInDim S16384x11008 ![] bcast_S_S16384x11008 (constant (F := Ideal) S_ .f32 0x3F800000#32)) (Host.exp (Host.negf (Host.dotGeneral dot_S16384x4096_S4096x11008_S16384x11008_1_0_0_1_n_n none (extf .f32 a bitsLt_bf16_f32) wg)))))) (Host.dotGeneral dot_S16384x4096_S4096x11008_S16384x11008_1_0_0_1_n_n none (extf .f32 a bitsLt_bf16_f32) wu)) bitsLt_bf16_f32)
    = (hid (m := 16384) (k := 4096) (n := 11008) a wg wu : Mat 16384 11008) := by
  funext j
  idx_vars j
  pointwise [hid, mm, sg_eq]

end Cert.Reference3Ideal.Line

end
-- ==== Proof.lean ====
module

public import proofs.«01_k».proof.Proof.Gen.Reference3Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Run
public import proofs.«01_k».proof.Proof.Gen.Reference3Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Sem1
public import proofs.«01_k».proof.Proof.Ref1
public import proofs.«01_k».proof.Proof.Sem2
public import proofs.«01_k».proof.Proof.Ref2
public import proofs.«01_k».proof.Proof.Sem3
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo

/-- The reference's run leaves its arguments alone, and there is no semaphore to raise. -/
theorem frame_ReferenceIdeal : Cert.quiescent_ReferenceIdeal (hReferenceIdeal := Cert.ReferenceIdeal.Gen.facts) := fun m g _ =>
  (θ_run Cert.ReferenceIdeal.defs _ _).mono (fun r h => ⟨fun c =>
    ⟨(h c Cert.ReferenceIdeal.main_arg0).trans (Cert.ReferenceIdeal.Line.line_arg _ (by decide)),
     (h c Cert.ReferenceIdeal.main_arg1).trans (Cert.ReferenceIdeal.Line.line_arg _ (by decide)),
     (h c Cert.ReferenceIdeal.main_arg2).trans (Cert.ReferenceIdeal.Line.line_arg _ (by decide)),
     (h c Cert.ReferenceIdeal.main_arg3).trans (Cert.ReferenceIdeal.Line.line_arg _ (by decide)),
     (h c Cert.ReferenceIdeal.main_arg4).trans (Cert.ReferenceIdeal.Line.line_arg _ (by decide)),
     (h c Cert.ReferenceIdeal.main_arg5).trans (Cert.ReferenceIdeal.Line.line_arg _ (by decide)),
     (h c Cert.ReferenceIdeal.main_arg6).trans (Cert.ReferenceIdeal.Line.line_arg _ (by decide)),
     (h c Cert.ReferenceIdeal.main_arg7).trans (Cert.ReferenceIdeal.Line.line_arg _ (by decide)),
     (h c Cert.ReferenceIdeal.main_arg8).trans (Cert.ReferenceIdeal.Line.line_arg _ (by decide)),
     (h c Cert.ReferenceIdeal.main_arg9).trans (Cert.ReferenceIdeal.Line.line_arg _ (by decide)),
     (h c Cert.ReferenceIdeal.main_arg10).trans (Cert.ReferenceIdeal.Line.line_arg _ (by decide))⟩,
    sem_eq_zero_of_no_sems (by rfl) _⟩) (Cert.ReferenceIdeal.Line.run (F := Ideal) m g)

/-- The reference's run leaves its arguments alone, and there is no semaphore to raise. -/
theorem frame_Reference2Ideal : Cert.quiescent_Reference2Ideal (hReference2Ideal := Cert.Reference2Ideal.Gen.facts) := fun m g _ =>
  (θ_run Cert.Reference2Ideal.defs _ _).mono (fun r h => ⟨fun c =>
    ⟨(h c Cert.Reference2Ideal.main_arg0).trans (Cert.Reference2Ideal.Line.line_arg _ (by decide)),
     (h c Cert.Reference2Ideal.main_arg1).trans (Cert.Reference2Ideal.Line.line_arg _ (by decide)),
     (h c Cert.Reference2Ideal.main_arg2).trans (Cert.Reference2Ideal.Line.line_arg _ (by decide)),
     (h c Cert.Reference2Ideal.main_arg3).trans (Cert.Reference2Ideal.Line.line_arg _ (by decide)),
     (h c Cert.Reference2Ideal.main_arg4).trans (Cert.Reference2Ideal.Line.line_arg _ (by decide)),
     (h c Cert.Reference2Ideal.main_arg5).trans (Cert.Reference2Ideal.Line.line_arg _ (by decide)),
     (h c Cert.Reference2Ideal.main_arg6).trans (Cert.Reference2Ideal.Line.line_arg _ (by decide)),
     (h c Cert.Reference2Ideal.main_arg7).trans (Cert.Reference2Ideal.Line.line_arg _ (by decide)),
     (h c Cert.Reference2Ideal.main_arg8).trans (Cert.Reference2Ideal.Line.line_arg _ (by decide)),
     (h c Cert.Reference2Ideal.main_arg9).trans (Cert.Reference2Ideal.Line.line_arg _ (by decide)),
     (h c Cert.Reference2Ideal.main_arg10).trans (Cert.Reference2Ideal.Line.line_arg _ (by decide)),
     (h c Cert.Reference2Ideal.main_arg11).trans (Cert.Reference2Ideal.Line.line_arg _ (by decide)),
     (h c Cert.Reference2Ideal.main_arg12).trans (Cert.Reference2Ideal.Line.line_arg _ (by decide))⟩,
    sem_eq_zero_of_no_sems (by rfl) _⟩) (Cert.Reference2Ideal.Line.run (F := Ideal) m g)

/-- From agreeing arguments the residual stream, the mixer's input and its product are the same. -/
theorem H_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (a0 : m' ((c : Thread Cert.ReferenceIdeal.nD Cert.ReferenceIdeal.τ).loc Cert.ReferenceIdeal.main_arg0) = m ((c : Thread Cert.KernelIdeal.nD Cert.KernelIdeal.τ).loc Cert.KernelIdeal.main_arg0)) (a1 : m' ((c : Thread Cert.ReferenceIdeal.nD Cert.ReferenceIdeal.τ).loc Cert.ReferenceIdeal.main_arg1) = m ((c : Thread Cert.KernelIdeal.nD Cert.KernelIdeal.τ).loc Cert.KernelIdeal.main_arg1)) (a2 : m' ((c : Thread Cert.ReferenceIdeal.nD Cert.ReferenceIdeal.τ).loc Cert.ReferenceIdeal.main_arg2) = m ((c : Thread Cert.KernelIdeal.nD Cert.KernelIdeal.τ).loc Cert.KernelIdeal.main_arg2)) (a3 : m' ((c : Thread Cert.ReferenceIdeal.nD Cert.ReferenceIdeal.τ).loc Cert.ReferenceIdeal.main_arg3) = m ((c : Thread Cert.KernelIdeal.nD Cert.KernelIdeal.τ).loc Cert.KernelIdeal.main_arg3)) (a4 : m' ((c : Thread Cert.ReferenceIdeal.nD Cert.ReferenceIdeal.τ).loc Cert.ReferenceIdeal.main_arg4) = m ((c : Thread Cert.KernelIdeal.nD Cert.KernelIdeal.τ).loc Cert.KernelIdeal.main_arg4)) (a5 : m' ((c : Thread Cert.ReferenceIdeal.nD Cert.ReferenceIdeal.τ).loc Cert.ReferenceIdeal.main_arg5) = m ((c : Thread Cert.KernelIdeal.nD Cert.KernelIdeal.τ).loc Cert.KernelIdeal.main_arg5)) :
    Cert.ReferenceIdeal.Line.H (launchContents m' c) = Cert.KernelIdeal.Val.h m c := by
  have e0 : launchContents m' c (Proc.devRef .tc Cert.ReferenceIdeal.main_arg0) = m ((c : Thread Cert.KernelIdeal.nD Cert.KernelIdeal.τ).loc Cert.KernelIdeal.main_arg0) := a0
  have e1 : launchContents m' c (Proc.devRef .tc Cert.ReferenceIdeal.main_arg1) = m ((c : Thread Cert.KernelIdeal.nD Cert.KernelIdeal.τ).loc Cert.KernelIdeal.main_arg1) := a1
  have e2 : launchContents m' c (Proc.devRef .tc Cert.ReferenceIdeal.main_arg2) = m ((c : Thread Cert.KernelIdeal.nD Cert.KernelIdeal.τ).loc Cert.KernelIdeal.main_arg2) := a2
  have e3 : launchContents m' c (Proc.devRef .tc Cert.ReferenceIdeal.main_arg3) = m ((c : Thread Cert.KernelIdeal.nD Cert.KernelIdeal.τ).loc Cert.KernelIdeal.main_arg3) := a3
  have e4 : launchContents m' c (Proc.devRef .tc Cert.ReferenceIdeal.main_arg4) = m ((c : Thread Cert.KernelIdeal.nD Cert.KernelIdeal.τ).loc Cert.KernelIdeal.main_arg4) := a4
  have e5 : launchContents m' c (Proc.devRef .tc Cert.ReferenceIdeal.main_arg5) = m ((c : Thread Cert.KernelIdeal.nD Cert.KernelIdeal.τ).loc Cert.KernelIdeal.main_arg5) := a5
  unfold Cert.ReferenceIdeal.Line.H Cert.ReferenceIdeal.Line.X
  rw [e0, e1, e2, e3, e4, e5]
  rfl

theorem U_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (a0 : m' ((c : Thread Cert.ReferenceIdeal.nD Cert.ReferenceIdeal.τ).loc Cert.ReferenceIdeal.main_arg0) = m ((c : Thread Cert.KernelIdeal.nD Cert.KernelIdeal.τ).loc Cert.KernelIdeal.main_arg0)) (a1 : m' ((c : Thread Cert.ReferenceIdeal.nD Cert.ReferenceIdeal.τ).loc Cert.ReferenceIdeal.main_arg1) = m ((c : Thread Cert.KernelIdeal.nD Cert.KernelIdeal.τ).loc Cert.KernelIdeal.main_arg1)) (a2 : m' ((c : Thread Cert.ReferenceIdeal.nD Cert.ReferenceIdeal.τ).loc Cert.ReferenceIdeal.main_arg2) = m ((c : Thread Cert.KernelIdeal.nD Cert.KernelIdeal.τ).loc Cert.KernelIdeal.main_arg2)) (a3 : m' ((c : Thread Cert.ReferenceIdeal.nD Cert.ReferenceIdeal.τ).loc Cert.ReferenceIdeal.main_arg3) = m ((c : Thread Cert.KernelIdeal.nD Cert.KernelIdeal.τ).loc Cert.KernelIdeal.main_arg3)) (a4 : m' ((c : Thread Cert.ReferenceIdeal.nD Cert.ReferenceIdeal.τ).loc Cert.ReferenceIdeal.main_arg4) = m ((c : Thread Cert.KernelIdeal.nD Cert.KernelIdeal.τ).loc Cert.KernelIdeal.main_arg4)) (a5 : m' ((c : Thread Cert.ReferenceIdeal.nD Cert.ReferenceIdeal.τ).loc Cert.ReferenceIdeal.main_arg5) = m ((c : Thread Cert.KernelIdeal.nD Cert.KernelIdeal.τ).loc Cert.KernelIdeal.main_arg5)) (a6 : m' ((c : Thread Cert.ReferenceIdeal.nD Cert.ReferenceIdeal.τ).loc Cert.ReferenceIdeal.main_arg6) = m ((c : Thread Cert.KernelIdeal.nD Cert.KernelIdeal.τ).loc Cert.KernelIdeal.main_arg6)) :
    Cert.ReferenceIdeal.Line.U (launchContents m' c) = Cert.KernelIdeal.Val.u m c := by
  have e6 : launchContents m' c (Proc.devRef .tc Cert.ReferenceIdeal.main_arg6) = m ((c : Thread Cert.KernelIdeal.nD Cert.KernelIdeal.τ).loc Cert.KernelIdeal.main_arg6) := a6
  unfold Cert.ReferenceIdeal.Line.U
  rw [H_eq m m' c a0 a1 a2 a3 a4 a5, e6]
  rfl

theorem P_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (a0 : m' ((c : Thread Cert.ReferenceIdeal.nD Cert.ReferenceIdeal.τ).loc Cert.ReferenceIdeal.main_arg0) = m ((c : Thread Cert.KernelIdeal.nD Cert.KernelIdeal.τ).loc Cert.KernelIdeal.main_arg0)) (a1 : m' ((c : Thread Cert.ReferenceIdeal.nD Cert.ReferenceIdeal.τ).loc Cert.ReferenceIdeal.main_arg1) = m ((c : Thread Cert.KernelIdeal.nD Cert.KernelIdeal.τ).loc Cert.KernelIdeal.main_arg1)) (a2 : m' ((c : Thread Cert.ReferenceIdeal.nD Cert.ReferenceIdeal.τ).loc Cert.ReferenceIdeal.main_arg2) = m ((c : Thread Cert.KernelIdeal.nD Cert.KernelIdeal.τ).loc Cert.KernelIdeal.main_arg2)) (a3 : m' ((c : Thread Cert.ReferenceIdeal.nD Cert.ReferenceIdeal.τ).loc Cert.ReferenceIdeal.main_arg3) = m ((c : Thread Cert.KernelIdeal.nD Cert.KernelIdeal.τ).loc Cert.KernelIdeal.main_arg3)) (a4 : m' ((c : Thread Cert.ReferenceIdeal.nD Cert.ReferenceIdeal.τ).loc Cert.ReferenceIdeal.main_arg4) = m ((c : Thread Cert.KernelIdeal.nD Cert.KernelIdeal.τ).loc Cert.KernelIdeal.main_arg4)) (a5 : m' ((c : Thread Cert.ReferenceIdeal.nD Cert.ReferenceIdeal.τ).loc Cert.ReferenceIdeal.main_arg5) = m ((c : Thread Cert.KernelIdeal.nD Cert.KernelIdeal.τ).loc Cert.KernelIdeal.main_arg5)) (a6 : m' ((c : Thread Cert.ReferenceIdeal.nD Cert.ReferenceIdeal.τ).loc Cert.ReferenceIdeal.main_arg6) = m ((c : Thread Cert.KernelIdeal.nD Cert.KernelIdeal.τ).loc Cert.KernelIdeal.main_arg6)) (a7 : m' ((c : Thread Cert.ReferenceIdeal.nD Cert.ReferenceIdeal.τ).loc Cert.ReferenceIdeal.main_arg7) = m ((c : Thread Cert.KernelIdeal.nD Cert.KernelIdeal.τ).loc Cert.KernelIdeal.main_arg7)) :
    Cert.ReferenceIdeal.Line.P (launchContents m' c) = Cert.Spec.mm (Cert.KernelIdeal.Val.u m c) (Cert.KernelIdeal.Val.win m c) := by
  have e7 : launchContents m' c (Proc.devRef .tc Cert.ReferenceIdeal.main_arg7) = m ((c : Thread Cert.KernelIdeal.nD Cert.KernelIdeal.τ).loc Cert.KernelIdeal.main_arg7) := a7
  unfold Cert.ReferenceIdeal.Line.P
  rw [U_eq m m' c a0 a1 a2 a3 a4 a5 a6, e7]

/-- Both programs run, and each result of the kernel is the reference's. -/
theorem algebraic_KernelIdeal : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Val.h m c, fun c => Cert.KernelIdeal.Val.u m c, fun c => (Cert.Spec.part 0 (by norm_num) Cert.Spec.scale (Cert.Spec.mm (Cert.KernelIdeal.Val.u m c) (Cert.KernelIdeal.Val.win m c)) : Cert.Spec.Mat 16384 6144), fun c => (Cert.Spec.part 6160 (by norm_num) Cert.Spec.scale (Cert.Spec.mm (Cert.KernelIdeal.Val.u m c) (Cert.KernelIdeal.Val.win m c)) : Cert.Spec.Mat 16384 6144), fun c => (Cert.Spec.gated 12304 (by norm_num) (Cert.Spec.mm (Cert.KernelIdeal.Val.u m c) (Cert.KernelIdeal.Val.win m c)) : Cert.Spec.Mat 16384 8192), fun c => Cert.KernelIdeal.Val.wof m c, fun c => Cert.KernelIdeal.Val.wod m c, fun c => Cert.KernelIdeal.Val.wout m c, ?_, ?_⟩
  · refine (θ_run Cert.KernelIdeal.defs _ _).mono (fun r h c => ⟨?_, ?_, ?_, ?_, ?_, ?_, ?_, ?_, ?_, ?_, ?_, ?_, ?_, ?_, ?_, ?_, ?_, ?_, ?_⟩) (Cert.KernelIdeal.Val.run_at (F := Ideal) m g)
    · exact (h c Cert.KernelIdeal.main_v19_0 (by decide)).trans (Cert.KernelIdeal.Val.w10_h m g c)
    · exact (h c Cert.KernelIdeal.main_v19_1 (by decide)).trans (Cert.KernelIdeal.Val.w10_u m g c)
    · exact (h c Cert.KernelIdeal.main_v20 (by decide)).trans (Cert.KernelIdeal.Val.w10_fox m g c)
    · exact (h c Cert.KernelIdeal.main_v21 (by decide)).trans (Cert.KernelIdeal.Val.w10_diff m g c)
    · exact (h c Cert.KernelIdeal.main_v22 (by decide)).trans (Cert.KernelIdeal.Val.w10_gates m g c)
    · exact (h c Cert.KernelIdeal.main_v14_2 (by decide)).trans (Cert.KernelIdeal.Val.w10_wof m g c)
    · exact (h c Cert.KernelIdeal.main_v14_3 (by decide)).trans (Cert.KernelIdeal.Val.w10_wod m g c)
    · exact (h c Cert.KernelIdeal.main_v14_4 (by decide)).trans (Cert.KernelIdeal.Val.w10_wout m g c)
    · exact (h c Cert.KernelIdeal.main_arg0 (by decide)).trans (Cert.KernelIdeal.Gen.W10_main_arg0 m g c)
    · exact (h c Cert.KernelIdeal.main_arg1 (by decide)).trans (Cert.KernelIdeal.Gen.W10_main_arg1 m g c)
    · exact (h c Cert.KernelIdeal.main_arg2 (by decide)).trans (Cert.KernelIdeal.Gen.W10_main_arg2 m g c)
    · exact (h c Cert.KernelIdeal.main_arg3 (by decide)).trans (Cert.KernelIdeal.Gen.W10_main_arg3 m g c)
    · exact (h c Cert.KernelIdeal.main_arg4 (by decide)).trans (Cert.KernelIdeal.Gen.W10_main_arg4 m g c)
    · exact (h c Cert.KernelIdeal.main_arg5 (by decide)).trans (Cert.KernelIdeal.Gen.W10_main_arg5 m g c)
    · exact (h c Cert.KernelIdeal.main_arg6 (by decide)).trans (Cert.KernelIdeal.Gen.W10_main_arg6 m g c)
    · exact (h c Cert.KernelIdeal.main_arg7 (by decide)).trans (Cert.KernelIdeal.Gen.W10_main_arg7 m g c)
    · exact (h c Cert.KernelIdeal.main_arg8 (by decide)).trans (Cert.KernelIdeal.Gen.W10_main_arg8 m g c)
    · exact (h c Cert.KernelIdeal.main_arg9 (by decide)).trans (Cert.KernelIdeal.Gen.W10_main_arg9 m g c)
    · exact (h c Cert.KernelIdeal.main_arg10 (by decide)).trans (Cert.KernelIdeal.Gen.W10_main_arg10 m g c)
  · refine (θ_run Cert.ReferenceIdeal.defs _ _).mono (fun r h c => ?_) (Cert.ReferenceIdeal.Line.run (F := Ideal) m' g')
    obtain ⟨a0, a1, a2, a3, a4, a5, a6, a7, a8, a9, a10⟩ := hagree c
    refine ⟨?_, ?_, ?_, ?_, ?_, ?_, ?_, ?_, ?_, ?_, ?_, ?_, ?_, ?_, ?_, ?_, ?_, ?_, ?_⟩
    · exact (h c Cert.ReferenceIdeal.main_v35).trans ((Cert.ReferenceIdeal.Line.line_h _).trans (H_eq m m' c a0 a1 a2 a3 a4 a5))
    · exact (h c Cert.ReferenceIdeal.main_v61).trans ((Cert.ReferenceIdeal.Line.line_u _).trans (U_eq m m' c a0 a1 a2 a3 a4 a5 a6))
    · exact (h c Cert.ReferenceIdeal.main_v67).trans ((Cert.ReferenceIdeal.Line.line_fox _).trans (congrArg (Cert.Spec.part 0 (by norm_num) Cert.Spec.scale) (P_eq m m' c a0 a1 a2 a3 a4 a5 a6 a7)))
    · exact (h c Cert.ReferenceIdeal.main_v73).trans ((Cert.ReferenceIdeal.Line.line_diff _).trans (congrArg (Cert.Spec.part 6160 (by norm_num) Cert.Spec.scale) (P_eq m m' c a0 a1 a2 a3 a4 a5 a6 a7)))
    · exact (h c Cert.ReferenceIdeal.main_v87).trans ((Cert.ReferenceIdeal.Line.line_gates _).trans (congrArg (Cert.Spec.gated 12304 (by norm_num)) (P_eq m m' c a0 a1 a2 a3 a4 a5 a6 a7)))
    · exact (h c Cert.ReferenceIdeal.main_v89).trans ((Cert.ReferenceIdeal.Line.line_w _).1.trans (congrArg (fun a => shapeCast Cert.KernelIdeal.S2048x4096 a Cert.KernelIdeal.Gen.facts.shapeCasts_S1x2048x4096_S2048x4096) a8))
    · exact (h c Cert.ReferenceIdeal.main_v91).trans ((Cert.ReferenceIdeal.Line.line_w _).2.1.trans (congrArg (fun a => shapeCast Cert.KernelIdeal.S2048x4096 a Cert.KernelIdeal.Gen.facts.shapeCasts_S1x2048x4096_S2048x4096) a9))
    · exact (h c Cert.ReferenceIdeal.main_v93).trans ((Cert.ReferenceIdeal.Line.line_w _).2.2.trans (congrArg (fun a => shapeCast Cert.KernelIdeal.S4096x4096 a Cert.KernelIdeal.Gen.facts.shapeCasts_S1x4096x4096_S4096x4096) a10))
    · exact (h c Cert.ReferenceIdeal.main_arg0).trans (Cert.ReferenceIdeal.Line.line_arg _ (by decide))
    · exact (h c Cert.ReferenceIdeal.main_arg1).trans (Cert.ReferenceIdeal.Line.line_arg _ (by decide))
    · exact (h c Cert.ReferenceIdeal.main_arg2).trans (Cert.ReferenceIdeal.Line.line_arg _ (by decide))
    · exact (h c Cert.ReferenceIdeal.main_arg3).trans (Cert.ReferenceIdeal.Line.line_arg _ (by decide))
    · exact (h c Cert.ReferenceIdeal.main_arg4).trans (Cert.ReferenceIdeal.Line.line_arg _ (by decide))
    · exact (h c Cert.ReferenceIdeal.main_arg5).trans (Cert.ReferenceIdeal.Line.line_arg _ (by decide))
    · exact (h c Cert.ReferenceIdeal.main_arg6).trans (Cert.ReferenceIdeal.Line.line_arg _ (by decide))
    · exact (h c Cert.ReferenceIdeal.main_arg7).trans (Cert.ReferenceIdeal.Line.line_arg _ (by decide))
    · exact (h c Cert.ReferenceIdeal.main_arg8).trans (Cert.ReferenceIdeal.Line.line_arg _ (by decide))
    · exact (h c Cert.ReferenceIdeal.main_arg9).trans (Cert.ReferenceIdeal.Line.line_arg _ (by decide))
    · exact (h c Cert.ReferenceIdeal.main_arg10).trans (Cert.ReferenceIdeal.Line.line_arg _ (by decide))

/-- From agreeing arguments the layer's result is the same. -/
theorem out_eq (m : (ℓ : Loc Cert.Kernel2Ideal.nD Cert.Kernel2Ideal.τ Cert.Kernel2Ideal.sig) → Buf (Elt Ideal) ℓ) (m' : (ℓ : Loc Cert.Reference2Ideal.nD Cert.Reference2Ideal.τ Cert.Reference2Ideal.sig) → Buf (Elt Ideal) ℓ) (c : Dev Cert.Kernel2Ideal.nD)
    (a0 : m' ((c : Thread Cert.Reference2Ideal.nD Cert.Reference2Ideal.τ).loc Cert.Reference2Ideal.main_arg0) = m ((c : Thread Cert.Kernel2Ideal.nD Cert.Kernel2Ideal.τ).loc Cert.Kernel2Ideal.main_arg0)) (a1 : m' ((c : Thread Cert.Reference2Ideal.nD Cert.Reference2Ideal.τ).loc Cert.Reference2Ideal.main_arg1) = m ((c : Thread Cert.Kernel2Ideal.nD Cert.Kernel2Ideal.τ).loc Cert.Kernel2Ideal.main_arg1)) (a2 : m' ((c : Thread Cert.Reference2Ideal.nD Cert.Reference2Ideal.τ).loc Cert.Reference2Ideal.main_arg2) = m ((c : Thread Cert.Kernel2Ideal.nD Cert.Kernel2Ideal.τ).loc Cert.Kernel2Ideal.main_arg2)) (a3 : m' ((c : Thread Cert.Reference2Ideal.nD Cert.Reference2Ideal.τ).loc Cert.Reference2Ideal.main_arg3) = m ((c : Thread Cert.Kernel2Ideal.nD Cert.Kernel2Ideal.τ).loc Cert.Kernel2Ideal.main_arg3)) (a4 : m' ((c : Thread Cert.Reference2Ideal.nD Cert.Reference2Ideal.τ).loc Cert.Reference2Ideal.main_arg4) = m ((c : Thread Cert.Kernel2Ideal.nD Cert.Kernel2Ideal.τ).loc Cert.Kernel2Ideal.main_arg4)) (a5 : m' ((c : Thread Cert.Reference2Ideal.nD Cert.Reference2Ideal.τ).loc Cert.Reference2Ideal.main_arg5) = m ((c : Thread Cert.Kernel2Ideal.nD Cert.Kernel2Ideal.τ).loc Cert.Kernel2Ideal.main_arg5)) (a6 : m' ((c : Thread Cert.Reference2Ideal.nD Cert.Reference2Ideal.τ).loc Cert.Reference2Ideal.main_arg6) = m ((c : Thread Cert.Kernel2Ideal.nD Cert.Kernel2Ideal.τ).loc Cert.Kernel2Ideal.main_arg6)) (a7 : m' ((c : Thread Cert.Reference2Ideal.nD Cert.Reference2Ideal.τ).loc Cert.Reference2Ideal.main_arg7) = m ((c : Thread Cert.Kernel2Ideal.nD Cert.Kernel2Ideal.τ).loc Cert.Kernel2Ideal.main_arg7)) (a8 : m' ((c : Thread Cert.Reference2Ideal.nD Cert.Reference2Ideal.τ).loc Cert.Reference2Ideal.main_arg8) = m ((c : Thread Cert.Kernel2Ideal.nD Cert.Kernel2Ideal.τ).loc Cert.Kernel2Ideal.main_arg8)) (a9 : m' ((c : Thread Cert.Reference2Ideal.nD Cert.Reference2Ideal.τ).loc Cert.Reference2Ideal.main_arg9) = m ((c : Thread Cert.Kernel2Ideal.nD Cert.Kernel2Ideal.τ).loc Cert.Kernel2Ideal.main_arg9)) (a10 : m' ((c : Thread Cert.Reference2Ideal.nD Cert.Reference2Ideal.τ).loc Cert.Reference2Ideal.main_arg10) = m ((c : Thread Cert.Kernel2Ideal.nD Cert.Kernel2Ideal.τ).loc Cert.Kernel2Ideal.main_arg10)) (a11 : m' ((c : Thread Cert.Reference2Ideal.nD Cert.Reference2Ideal.τ).loc Cert.Reference2Ideal.main_arg11) = m ((c : Thread Cert.Kernel2Ideal.nD Cert.Kernel2Ideal.τ).loc Cert.Kernel2Ideal.main_arg11)) (a12 : m' ((c : Thread Cert.Reference2Ideal.nD Cert.Reference2Ideal.τ).loc Cert.Reference2Ideal.main_arg12) = m ((c : Thread Cert.Kernel2Ideal.nD Cert.Kernel2Ideal.τ).loc Cert.Kernel2Ideal.main_arg12)) :
    after Cert.Reference2Ideal.Line.line (launchContents m' c) (Proc.devRef .tc Cert.Reference2Ideal.main_v61) = Cert.Kernel2Ideal.Val.out m c := by
  have e0 : launchContents m' c (Proc.devRef .tc Cert.Reference2Ideal.main_arg0) = m ((c : Thread Cert.Kernel2Ideal.nD Cert.Kernel2Ideal.τ).loc Cert.Kernel2Ideal.main_arg0) := a0
  have e1 : launchContents m' c (Proc.devRef .tc Cert.Reference2Ideal.main_arg1) = m ((c : Thread Cert.Kernel2Ideal.nD Cert.Kernel2Ideal.τ).loc Cert.Kernel2Ideal.main_arg1) := a1
  have e2 : launchContents m' c (Proc.devRef .tc Cert.Reference2Ideal.main_arg2) = m ((c : Thread Cert.Kernel2Ideal.nD Cert.Kernel2Ideal.τ).loc Cert.Kernel2Ideal.main_arg2) := a2
  have e3 : launchContents m' c (Proc.devRef .tc Cert.Reference2Ideal.main_arg3) = m ((c : Thread Cert.Kernel2Ideal.nD Cert.Kernel2Ideal.τ).loc Cert.Kernel2Ideal.main_arg3) := a3
  have e4 : launchContents m' c (Proc.devRef .tc Cert.Reference2Ideal.main_arg4) = m ((c : Thread Cert.Kernel2Ideal.nD Cert.Kernel2Ideal.τ).loc Cert.Kernel2Ideal.main_arg4) := a4
  have e5 : launchContents m' c (Proc.devRef .tc Cert.Reference2Ideal.main_arg5) = m ((c : Thread Cert.Kernel2Ideal.nD Cert.Kernel2Ideal.τ).loc Cert.Kernel2Ideal.main_arg5) := a5
  have e6 : launchContents m' c (Proc.devRef .tc Cert.Reference2Ideal.main_arg6) = m ((c : Thread Cert.Kernel2Ideal.nD Cert.Kernel2Ideal.τ).loc Cert.Kernel2Ideal.main_arg6) := a6
  have e7 : launchContents m' c (Proc.devRef .tc Cert.Reference2Ideal.main_arg7) = m ((c : Thread Cert.Kernel2Ideal.nD Cert.Kernel2Ideal.τ).loc Cert.Kernel2Ideal.main_arg7) := a7
  have e8 : launchContents m' c (Proc.devRef .tc Cert.Reference2Ideal.main_arg8) = m ((c : Thread Cert.Kernel2Ideal.nD Cert.Kernel2Ideal.τ).loc Cert.Kernel2Ideal.main_arg8) := a8
  have e9 : launchContents m' c (Proc.devRef .tc Cert.Reference2Ideal.main_arg9) = m ((c : Thread Cert.Kernel2Ideal.nD Cert.Kernel2Ideal.τ).loc Cert.Kernel2Ideal.main_arg9) := a9
  have e10 : launchContents m' c (Proc.devRef .tc Cert.Reference2Ideal.main_arg10) = m ((c : Thread Cert.Kernel2Ideal.nD Cert.Kernel2Ideal.τ).loc Cert.Kernel2Ideal.main_arg10) := a10
  have e11 : launchContents m' c (Proc.devRef .tc Cert.Reference2Ideal.main_arg11) = m ((c : Thread Cert.Kernel2Ideal.nD Cert.Kernel2Ideal.τ).loc Cert.Kernel2Ideal.main_arg11) := a11
  have e12 : launchContents m' c (Proc.devRef .tc Cert.Reference2Ideal.main_arg12) = m ((c : Thread Cert.Kernel2Ideal.nD Cert.Kernel2Ideal.τ).loc Cert.Kernel2Ideal.main_arg12) := a12
  rw [Cert.Reference2Ideal.Line.line_val, e0, e1, e2, e3, e4, e5, e6, e7, e8, e9, e10, e11, e12]
  rfl

/-- Both programs run, and each result of the kernel is the reference's. -/
theorem algebraic_Kernel2Ideal : Cert.algebraic_Kernel2Ideal_Reference2Ideal (hKernel2Ideal := Cert.Kernel2Ideal.Gen.facts) (hReference2Ideal := Cert.Reference2Ideal.Gen.facts) := by
  intro m g m' g' _ hagree
  refine ⟨fun c => Cert.Kernel2Ideal.Val.out m c, ?_, ?_⟩
  · refine (θ_run Cert.Kernel2Ideal.defs _ _).mono (fun r h c => ⟨?_, ?_, ?_, ?_, ?_, ?_, ?_, ?_, ?_, ?_, ?_, ?_, ?_, ?_⟩) (Cert.Kernel2Ideal.Val.run_at (F := Ideal) m g)
    · exact (h c Cert.Kernel2Ideal.main_v14 (by decide)).trans (Cert.Kernel2Ideal.Val.w8_out m g c)
    · exact (h c Cert.Kernel2Ideal.main_arg0 (by decide)).trans (Cert.Kernel2Ideal.Gen.W8_main_arg0 m g c)
    · exact (h c Cert.Kernel2Ideal.main_arg1 (by decide)).trans (Cert.Kernel2Ideal.Gen.W8_main_arg1 m g c)
    · exact (h c Cert.Kernel2Ideal.main_arg2 (by decide)).trans (Cert.Kernel2Ideal.Gen.W8_main_arg2 m g c)
    · exact (h c Cert.Kernel2Ideal.main_arg3 (by decide)).trans (Cert.Kernel2Ideal.Gen.W8_main_arg3 m g c)
    · exact (h c Cert.Kernel2Ideal.main_arg4 (by decide)).trans (Cert.Kernel2Ideal.Gen.W8_main_arg4 m g c)
    · exact (h c Cert.Kernel2Ideal.main_arg5 (by decide)).trans (Cert.Kernel2Ideal.Gen.W8_main_arg5 m g c)
    · exact (h c Cert.Kernel2Ideal.main_arg6 (by decide)).trans (Cert.Kernel2Ideal.Gen.W8_main_arg6 m g c)
    · exact (h c Cert.Kernel2Ideal.main_arg7 (by decide)).trans (Cert.Kernel2Ideal.Gen.W8_main_arg7 m g c)
    · exact (h c Cert.Kernel2Ideal.main_arg8 (by decide)).trans (Cert.Kernel2Ideal.Gen.W8_main_arg8 m g c)
    · exact (h c Cert.Kernel2Ideal.main_arg9 (by decide)).trans (Cert.Kernel2Ideal.Gen.W8_main_arg9 m g c)
    · exact (h c Cert.Kernel2Ideal.main_arg10 (by decide)).trans (Cert.Kernel2Ideal.Gen.W8_main_arg10 m g c)
    · exact (h c Cert.Kernel2Ideal.main_arg11 (by decide)).trans (Cert.Kernel2Ideal.Gen.W8_main_arg11 m g c)
    · exact (h c Cert.Kernel2Ideal.main_arg12 (by decide)).trans (Cert.Kernel2Ideal.Gen.W8_main_arg12 m g c)
  · refine (θ_run Cert.Reference2Ideal.defs _ _).mono (fun r h c => ?_) (Cert.Reference2Ideal.Line.run (F := Ideal) m' g')
    obtain ⟨a0, a1, a2, a3, a4, a5, a6, a7, a8, a9, a10, a11, a12⟩ := hagree c
    refine ⟨?_, ?_, ?_, ?_, ?_, ?_, ?_, ?_, ?_, ?_, ?_, ?_, ?_, ?_⟩
    · exact (h c Cert.Reference2Ideal.main_v61).trans (out_eq m m' c a0 a1 a2 a3 a4 a5 a6 a7 a8 a9 a10 a11 a12)
    · exact (h c Cert.Reference2Ideal.main_arg0).trans (Cert.Reference2Ideal.Line.line_arg _ (by decide))
    · exact (h c Cert.Reference2Ideal.main_arg1).trans (Cert.Reference2Ideal.Line.line_arg _ (by decide))
    · exact (h c Cert.Reference2Ideal.main_arg2).trans (Cert.Reference2Ideal.Line.line_arg _ (by decide))
    · exact (h c Cert.Reference2Ideal.main_arg3).trans (Cert.Reference2Ideal.Line.line_arg _ (by decide))
    · exact (h c Cert.Reference2Ideal.main_arg4).trans (Cert.Reference2Ideal.Line.line_arg _ (by decide))
    · exact (h c Cert.Reference2Ideal.main_arg5).trans (Cert.Reference2Ideal.Line.line_arg _ (by decide))
    · exact (h c Cert.Reference2Ideal.main_arg6).trans (Cert.Reference2Ideal.Line.line_arg _ (by decide))
    · exact (h c Cert.Reference2Ideal.main_arg7).trans (Cert.Reference2Ideal.Line.line_arg _ (by decide))
    · exact (h c Cert.Reference2Ideal.main_arg8).trans (Cert.Reference2Ideal.Line.line_arg _ (by decide))
    · exact (h c Cert.Reference2Ideal.main_arg9).trans (Cert.Reference2Ideal.Line.line_arg _ (by decide))
    · exact (h c Cert.Reference2Ideal.main_arg10).trans (Cert.Reference2Ideal.Line.line_arg _ (by decide))
    · exact (h c Cert.Reference2Ideal.main_arg11).trans (Cert.Reference2Ideal.Line.line_arg _ (by decide))
    · exact (h c Cert.Reference2Ideal.main_arg12).trans (Cert.Reference2Ideal.Line.line_arg _ (by decide))

set_option smartUnfolding false in
/-- The first gate/up call by itself has one text for both kinds of floats. -/
theorem defs₀_same : Cert.Kernel3.defs₀ (F := Bits) = Cert.Kernel3Ideal.defs₀ (F := Bits) := rfl

theorem defs_same : Cert.Kernel3.defs (F := Bits) = Cert.Kernel3Ideal.defs (F := Bits) :=
  congrArg (Pipeline.defs (Cert.Kernel3Ideal.pcfgs (F := Bits))) defs₀_same

/-- The first gate/up call's frame, at both kinds of floats, and its reference's. -/
theorem frame_Kernel3 : Cert.quiescent_Kernel3 (hKernel3 := Cert.Kernel3.Gen.facts) := fun m ρ _ => by
  have h := Cert.Kernel3Ideal.Val.frame (F := Bits) m ρ
  rw [← defs_same] at h
  exact h

theorem frame_Kernel3Ideal : Cert.quiescent_Kernel3Ideal (hKernel3Ideal := Cert.Kernel3Ideal.Gen.facts) := fun m ρ _ =>
  Cert.Kernel3Ideal.Val.frame (F := Ideal) m ρ

theorem frame_Reference3Ideal : Cert.quiescent_Reference3Ideal (hReference3Ideal := Cert.Reference3Ideal.Gen.facts) := fun m g _ =>
  (θ_run Cert.Reference3Ideal.defs _ _).mono (fun r h => ⟨fun c => (h c).2.2.2.2.2.2, sem_eq_zero_of_no_sems (by rfl) _⟩) (Cert.Reference3Ideal.Value.run (F := Ideal) m g)

/-- Both programs run, and each of the call's six results is the reference's. -/
theorem algebraic_Kernel3Ideal : Cert.algebraic_Kernel3Ideal_Reference3Ideal (hKernel3Ideal := Cert.Kernel3Ideal.Gen.facts) (hReference3Ideal := Cert.Reference3Ideal.Gen.facts) := by
  intro m g m' g' _ hagree
  refine ⟨fun c => Cert.Kernel3Ideal.Val.o0 m c, fun c => Cert.Kernel3Ideal.Val.o1 m c, fun c => Cert.Kernel3Ideal.Val.o2 m c, fun c => Cert.Kernel3Ideal.Val.o3 m c, fun c => Cert.Kernel3Ideal.Val.o4 m c, fun c => Cert.Kernel3Ideal.Val.o5 m c, ?_, ?_⟩
  · exact (θ_run Cert.Kernel3Ideal.defs _ _).mono (fun r h c => ⟨Cert.Kernel3Ideal.Val.res0 c h.1, Cert.Kernel3Ideal.Val.res1 c h.1, Cert.Kernel3Ideal.Val.res2 c h.1, Cert.Kernel3Ideal.Val.res3 c h.1, Cert.Kernel3Ideal.Val.res4 c h.1, Cert.Kernel3Ideal.Val.res5 c h.1, Cert.Kernel3Ideal.Val.args_kept m h.1 c⟩) (Cert.Kernel3Ideal.Val.run_main (F := Ideal) m g)
  · refine (θ_run Cert.Reference3Ideal.defs _ _).mono (fun r h c => ?_) (Cert.Reference3Ideal.Value.run (F := Ideal) m' g')
    obtain ⟨a0, a1, a2, a3, a4, a5, a6, a7⟩ := hagree c
    obtain ⟨h0, h1, h2, h3, h4, h5, hargs⟩ := h c
    refine ⟨?_, ?_, ?_, ?_, ?_, ?_, hargs⟩
    · refine h0.trans ((Cert.Reference3Ideal.Line.hid_val _ _ _).trans ?_)
      rw [a0, a1, a2]
      rfl
    · exact h1.trans (congrArg (fun a => shapeCast Cert.Kernel3Ideal.S11008x4096 a Cert.Kernel3Ideal.Gen.facts.shapeCasts_S1x11008x4096_S11008x4096) a3)
    · exact h2.trans (congrArg (fun a => transpose Cert.Kernel3Ideal.S20496x4096 [1, 0] (shapeCast Cert.Kernel3Ideal.S4096x20496 a Cert.Kernel3Ideal.Gen.facts.shapeCasts_S1x4096x20496_S4096x20496) Cert.Kernel3Ideal.Gen.facts.transposes_S4096x20496_S20496x4096_1_0) a4)
    · exact h3.trans (congrArg (fun a => shapeCast Cert.Kernel3Ideal.S2048x4096 a Cert.Kernel3Ideal.Gen.facts.shapeCasts_S1x2048x4096_S2048x4096) a5)
    · exact h4.trans (congrArg (fun a => shapeCast Cert.Kernel3Ideal.S2048x4096 a Cert.Kernel3Ideal.Gen.facts.shapeCasts_S1x2048x4096_S2048x4096) a6)
    · exact h5.trans (congrArg (fun a => shapeCast Cert.Kernel3Ideal.S4096x4096 a Cert.Kernel3Ideal.Gen.facts.shapeCasts_S1x4096x4096_S4096x4096) a7)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Kernel.Gen.frame m ρ, fun m ρ _ => Cert.KernelIdeal.Gen.frame m ρ, frame_ReferenceIdeal,
  fun m ρ _ => Cert.Kernel2.Gen.frame m ρ, fun m ρ _ => Cert.Kernel2Ideal.Gen.frame m ρ, frame_Reference2Ideal,
  frame_Kernel3, frame_Kernel3Ideal, frame_Reference3Ideal,
  IdealRules.named_const.statement Cert.KernelIdeal.κ "qscale" .f32 0x3E0293EE#32 (((Real.sqrt 128)⁻¹ * (Real.log 2)⁻¹ : ℝ) : EReal) rfl,
  algebraic_KernelIdeal, trivial, algebraic_Kernel2Ideal, trivial, algebraic_Kernel3Ideal⟩

end Cert.Proof

end
